-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 32768]⟩ 1 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![2048, 32768]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_cst : FVec F S_ .f32 := constant S_ .f32 0xFF800000#32
  let main_v0 : FVec F S2048x1024 .f32 := broadcastInDim S2048x1024 ![] bcast_S_S2048x1024 main_cst
  let main_v1 : IVec S2048x1024 1 := cmpf .ogt main_arg0 main_v0
  let main_cst_0 : FVec F S_ .f32 := constant S_ .f32 0x7F800000#32
  let main_v2 : FVec F S2048x1024 .f32 := broadcastInDim S2048x1024 ![] bcast_S_S2048x1024 main_cst_0
  let main_v3 : IVec S2048x1024 1 := cmpf .olt main_arg0 main_v2
  let main_v4 : IVec S2048x1024 1 := andi main_v1 main_v3
  let main_c : IVec S_ 1 := constantI S_ 1 1#1
  let main_v5 : IVec S_ 1 := (fun x v => Host.reduce IntOp.andi x v reducesTo_S2048x1024_S_d0_1 h_S_) main_v4 main_c
  main_v5
-- ==== Pre_finite_ReferenceIdeal.lean ====
abbrev S2048x32768 : Shape := ⟨2, ![2048, 32768]⟩
abbrev S_ : Shape := ⟨0, ![]⟩

class Facts : Prop where
  bcast_S_S2048x32768 : S_.BroadcastsInDim S2048x32768 (![] : Fin 0 → Fin S2048x32768.rank)
  reducesTo_S2048x32768_S_d0_1 : S2048x32768.ReducesTo [0, 1] S_
  h_S_ : 0 < S_.numel

variable [Facts]

def fn {F : FTy → Type} [FloatOps F] (main_arg0 : FVec F S2048x32768 .f32) : IVec S_ 1 :=
  let main_cst : FVec F S_ .f32 := constant S_ .f32 0xFF800000#32
  let main_v0 : FVec F S2048x32768 .f32 := broadcastInDim S2048x32768 ![] bcast_S_S2048x32768 main_cst
  let main_v1 : IVec S2048x32768 1 := cmpf .ogt main_arg0 main_v0
  let main_cst_0 : FVec F S_ .f32 := constant S_ .f32 0x7F800000#32
  let main_v2 : FVec F S2048x32768 .f32 := broadcastInDim S2048x32768 ![] bcast_S_S2048x32768 main_cst_0
  let main_v3 : IVec S2048x32768 1 := cmpf .olt main_arg0 main_v2
  let main_v4 : IVec S2048x32768 1 := andi main_v1 main_v3
  let main_c : IVec S_ 1 := constantI S_ 1 1#1
  let main_v5 : IVec S_ 1 := (fun x v => Host.reduce IntOp.andi x v reducesTo_S2048x32768_S_d0_1 h_S_) main_v4 main_c
  main_v5
-- ==== Kernel.lean ====
abbrev S2048x1024 : Shape := ⟨2, ![2048, 1024]⟩
abbrev S2x8x2x8x128 : Shape := ⟨5, ![2, 8, 2, 8, 128]⟩
abbrev S14 : Shape := ⟨1, ![14]⟩
abbrev S_ : Shape := ⟨0, ![]⟩
abbrev S1024x1024 : Shape := ⟨2, ![1024, 1024]⟩
abbrev S8x128x1024 : Shape := ⟨3, ![8, 128, 1024]⟩
abbrev S8x128 : Shape := ⟨2, ![8, 128]⟩
abbrev S8x128x1 : Shape := ⟨3, ![8, 128, 1]⟩
abbrev S1x1x1x8x128 : Shape := ⟨5, ![1, 1, 1, 8, 128]⟩
abbrev S1 : Shape := ⟨1, ![1]⟩
abbrev S1x1x2x8x128 : Shape := ⟨5, ![1, 1, 2, 8, 128]⟩
abbrev S2x8x128 : Shape := ⟨3, ![2, 8, 128]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .local _ .vmem, ⟨0, _⟩ => ⟨S2048x1024, .f32⟩
  | .local _ .vmem, ⟨1, _⟩ => ⟨S2048x1024, .bf16⟩
  | .local _ .vmem, ⟨2, _⟩ => ⟨S2x8x2x8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_97 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_23 : BitVec 32 := 1#32
  let v57 : BitVec 32 := Scalar.addi v2 c1_i32_23
  let c2_i32_24 : BitVec 32 := 2#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v2 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v58 : BitVec 32 := Scalar.muli c2_i32_24 v56
  let v59 : BitVec 32 := Scalar.subi v57 v58
  let c1_i32_96 : BitVec 32 := 1#32
  let v190 : BitVec 32 := Scalar.muli v59 c1_i32_96
  let v191 : BitVec 32 := Scalar.addi c0_i32_97 v190
  v191.toNat
def k0_dev2 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_38 : BitVec 32 := 8#32
  let v86 : BitVec 32 := Scalar.muli v19 c8_i32_38
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_25 : BitVec 32 := 1#32
  let v60 : BitVec 32 := Scalar.addi v46 c1_i32_25
  let c4_i32 : BitVec 32 := 4#32
  let c0_i32_26 : BitVec 32 := 0#32
  let v61 : BitVec 1 := Scalar.cmpi .eq c4_i32 c0_i32_26
  let c1_i32_27 : BitVec 32 := 1#32
  let v62 : BitVec 32 := Scalar.select v61 c1_i32_27 c4_i32
  let v63 : BitVec 32 := Scalar.remsi v60 v62
  let c0_i32_29 : BitVec 32 := 0#32
  let v65 : BitVec 1 := Scalar.cmpi .slt v63 c0_i32_29
  let c0_i32_30 : BitVec 32 := 0#32
  let v66 : BitVec 1 := Scalar.cmpi .slt v62 c0_i32_30
  let v67 : BitVec 1 := Scalar.xori v65 v66
  let c0_i32_28 : BitVec 32 := 0#32
  let v64 : BitVec 1 := Scalar.cmpi .ne v63 c0_i32_28
  let v68 : BitVec 1 := Scalar.andi v67 v64
  let v69 : BitVec 32 := Scalar.addi v63 v62
  let v70 : BitVec 32 := Scalar.select v68 v69 v63
  let c2_i32_39 : BitVec 32 := 2#32
  let v87 : BitVec 32 := Scalar.muli v70 c2_i32_39
  let v88 : BitVec 32 := Scalar.addi v86 v87
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v2 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v71 : BitVec 32 := Scalar.addi v46 v70
  let c2_i32_31 : BitVec 32 := 2#32
  let c0_i32_32 : BitVec 32 := 0#32
  let v72 : BitVec 1 := Scalar.cmpi .eq c2_i32_31 c0_i32_32
  let c1_i32_33 : BitVec 32 := 1#32
  let v73 : BitVec 32 := Scalar.select v72 c1_i32_33 c2_i32_31
  let v74 : BitVec 32 := Scalar.remsi v71 v73
  let c0_i32_35 : BitVec 32 := 0#32
  let v76 : BitVec 1 := Scalar.cmpi .slt v74 c0_i32_35
  let c0_i32_36 : BitVec 32 := 0#32
  let v77 : BitVec 1 := Scalar.cmpi .slt v73 c0_i32_36
  let v78 : BitVec 1 := Scalar.xori v76 v77
  let c0_i32_34 : BitVec 32 := 0#32
  let v75 : BitVec 1 := Scalar.cmpi .ne v74 c0_i32_34
  let v79 : BitVec 1 := Scalar.andi v78 v75
  let v80 : BitVec 32 := Scalar.addi v74 v73
  let v81 : BitVec 32 := Scalar.select v79 v80 v74
  let v82 : BitVec 32 := Scalar.addi v56 v81
  let c2_i32_37 : BitVec 32 := 2#32
  let v83 : BitVec 32 := Scalar.muli c2_i32_37 v56
  let v84 : BitVec 32 := Scalar.muli v83 v81
  let v85 : BitVec 32 := Scalar.subi v82 v84
  let v89 : BitVec 32 := Scalar.addi v88 v85
  let c1_i32_99 : BitVec 32 := 1#32
  let v192 : BitVec 32 := Scalar.muli v89 c1_i32_99
  let v193 : BitVec 32 := Scalar.addi c0_i32_100 v192
  v193.toNat
def k0_dev3 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_54 : BitVec 32 := 8#32
  let v116 : BitVec 32 := Scalar.muli v19 c8_i32_54
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_40 : BitVec 32 := 2#32
  let v90 : BitVec 32 := Scalar.addi v46 c2_i32_40
  let c4_i32_41 : BitVec 32 := 4#32
  let c0_i32_42 : BitVec 32 := 0#32
  let v91 : BitVec 1 := Scalar.cmpi .eq c4_i32_41 c0_i32_42
  let c1_i32_43 : BitVec 32 := 1#32
  let v92 : BitVec 32 := Scalar.select v91 c1_i32_43 c4_i32_41
  let v93 : BitVec 32 := Scalar.remsi v90 v92
  let c0_i32_45 : BitVec 32 := 0#32
  let v95 : BitVec 1 := Scalar.cmpi .slt v93 c0_i32_45
  let c0_i32_46 : BitVec 32 := 0#32
  let v96 : BitVec 1 := Scalar.cmpi .slt v92 c0_i32_46
  let v97 : BitVec 1 := Scalar.xori v95 v96
  let c0_i32_44 : BitVec 32 := 0#32
  let v94 : BitVec 1 := Scalar.cmpi .ne v93 c0_i32_44
  let v98 : BitVec 1 := Scalar.andi v97 v94
  let v99 : BitVec 32 := Scalar.addi v93 v92
  let v100 : BitVec 32 := Scalar.select v98 v99 v93
  let c2_i32_55 : BitVec 32 := 2#32
  let v117 : BitVec 32 := Scalar.muli v100 c2_i32_55
  let v118 : BitVec 32 := Scalar.addi v116 v117
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v2 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v101 : BitVec 32 := Scalar.addi v46 v100
  let c2_i32_47 : BitVec 32 := 2#32
  let c0_i32_48 : BitVec 32 := 0#32
  let v102 : BitVec 1 := Scalar.cmpi .eq c2_i32_47 c0_i32_48
  let c1_i32_49 : BitVec 32 := 1#32
  let v103 : BitVec 32 := Scalar.select v102 c1_i32_49 c2_i32_47
  let v104 : BitVec 32 := Scalar.remsi v101 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v112 : BitVec 32 := Scalar.addi v56 v111
  let c2_i32_53 : BitVec 32 := 2#32
  let v113 : BitVec 32 := Scalar.muli c2_i32_53 v56
  let v114 : BitVec 32 := Scalar.muli v113 v111
  let v115 : BitVec 32 := Scalar.subi v112 v114
  let v119 : BitVec 32 := Scalar.addi v118 v115
  let c1_i32_102 : BitVec 32 := 1#32
  let v194 : BitVec 32 := Scalar.muli v119 c1_i32_102
  let v195 : BitVec 32 := Scalar.addi c0_i32_103 v194
  v195.toNat
def k0_dev4 (d0 : Dev nD) : Nat :=
  let c0_i32_106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_69 : BitVec 32 := 8#32
  let v146 : BitVec 32 := Scalar.muli v19 c8_i32_69
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v120 : BitVec 32 := Scalar.addi v46 c3_i32
  let c4_i32_56 : BitVec 32 := 4#32
  let c0_i32_57 : BitVec 32 := 0#32
  let v121 : BitVec 1 := Scalar.cmpi .eq c4_i32_56 c0_i32_57
  let c1_i32_58 : BitVec 32 := 1#32
  let v122 : BitVec 32 := Scalar.select v121 c1_i32_58 c4_i32_56
  let v123 : BitVec 32 := Scalar.remsi v120 v122
  let c0_i32_60 : BitVec 32 := 0#32
  let v125 : BitVec 1 := Scalar.cmpi .slt v123 c0_i32_60
  let c0_i32_61 : BitVec 32 := 0#32
  let v126 : BitVec 1 := Scalar.cmpi .slt v122 c0_i32_61
  let v127 : BitVec 1 := Scalar.xori v125 v126
  let c0_i32_59 : BitVec 32 := 0#32
  let v124 : BitVec 1 := Scalar.cmpi .ne v123 c0_i32_59
  let v128 : BitVec 1 := Scalar.andi v127 v124
  let v129 : BitVec 32 := Scalar.addi v123 v122
  let v130 : BitVec 32 := Scalar.select v128 v129 v123
  let c2_i32_70 : BitVec 32 := 2#32
  let v147 : BitVec 32 := Scalar.muli v130 c2_i32_70
  let v148 : BitVec 32 := Scalar.addi v146 v147
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v2 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v131 : BitVec 32 := Scalar.addi v46 v130
  let c2_i32_62 : BitVec 32 := 2#32
  let c0_i32_63 : BitVec 32 := 0#32
  let v132 : BitVec 1 := Scalar.cmpi .eq c2_i32_62 c0_i32_63
  let c1_i32_64 : BitVec 32 := 1#32
  let v133 : BitVec 32 := Scalar.select v132 c1_i32_64 c2_i32_62
  let v134 : BitVec 32 := Scalar.remsi v131 v133
  let c0_i32_66 : BitVec 32 := 0#32
  let v136 : BitVec 1 := Scalar.cmpi .slt v134 c0_i32_66
  let c0_i32_67 : BitVec 32 := 0#32
  let v137 : BitVec 1 := Scalar.cmpi .slt v133 c0_i32_67
  let v138 : BitVec 1 := Scalar.xori v136 v137
  let c0_i32_65 : BitVec 32 := 0#32
  let v135 : BitVec 1 := Scalar.cmpi .ne v134 c0_i32_65
  let v139 : BitVec 1 := Scalar.andi v138 v135
  let v140 : BitVec 32 := Scalar.addi v134 v133
  let v141 : BitVec 32 := Scalar.select v139 v140 v134
  let v142 : BitVec 32 := Scalar.addi v56 v141
  let c2_i32_68 : BitVec 32 := 2#32
  let v143 : BitVec 32 := Scalar.muli c2_i32_68 v56
  let v144 : BitVec 32 := Scalar.muli v143 v141
  let v145 : BitVec 32 := Scalar.subi v142 v144
  let v149 : BitVec 32 := Scalar.addi v148 v145
  let c1_i32_105 : BitVec 32 := 1#32
  let v196 : BitVec 32 := Scalar.muli v149 c1_i32_105
  let v197 : BitVec 32 := Scalar.addi c0_i32_106 v196
  v197.toNat
def k0_dev5 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_71 : BitVec 32 := 1#32
  let v150 : BitVec 32 := Scalar.addi v19 c1_i32_71
  let c4_i32_72 : BitVec 32 := 4#32
  let c0_i32_73 : BitVec 32 := 0#32
  let v151 : BitVec 1 := Scalar.cmpi .eq c4_i32_72 c0_i32_73
  let c1_i32_74 : BitVec 32 := 1#32
  let v152 : BitVec 32 := Scalar.select v151 c1_i32_74 c4_i32_72
  let v153 : BitVec 32 := Scalar.remsi v150 v152
  let c0_i32_76 : BitVec 32 := 0#32
  let v155 : BitVec 1 := Scalar.cmpi .slt v153 c0_i32_76
  let c0_i32_77 : BitVec 32 := 0#32
  let v156 : BitVec 1 := Scalar.cmpi .slt v152 c0_i32_77
  let v157 : BitVec 1 := Scalar.xori v155 v156
  let c0_i32_75 : BitVec 32 := 0#32
  let v154 : BitVec 1 := Scalar.cmpi .ne v153 c0_i32_75
  let v158 : BitVec 1 := Scalar.andi v157 v154
  let v159 : BitVec 32 := Scalar.addi v153 v152
  let v160 : BitVec 32 := Scalar.select v158 v159 v153
  let c8_i32_78 : BitVec 32 := 8#32
  let v161 : BitVec 32 := Scalar.muli v160 c8_i32_78
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v162 : BitVec 32 := Scalar.addi v161 v29
  let c1_i32_108 : BitVec 32 := 1#32
  let v198 : BitVec 32 := Scalar.muli v162 c1_i32_108
  let v199 : BitVec 32 := Scalar.addi c0_i32_109 v198
  v199.toNat
def k0_dev6 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_79 : BitVec 32 := 2#32
  let v163 : BitVec 32 := Scalar.addi v19 c2_i32_79
  let c4_i32_80 : BitVec 32 := 4#32
  let c0_i32_81 : BitVec 32 := 0#32
  let v164 : BitVec 1 := Scalar.cmpi .eq c4_i32_80 c0_i32_81
  let c1_i32_82 : BitVec 32 := 1#32
  let v165 : BitVec 32 := Scalar.select v164 c1_i32_82 c4_i32_80
  let v166 : BitVec 32 := Scalar.remsi v163 v165
  let c0_i32_84 : BitVec 32 := 0#32
  let v168 : BitVec 1 := Scalar.cmpi .slt v166 c0_i32_84
  let c0_i32_85 : BitVec 32 := 0#32
  let v169 : BitVec 1 := Scalar.cmpi .slt v165 c0_i32_85
  let v170 : BitVec 1 := Scalar.xori v168 v169
  let c0_i32_83 : BitVec 32 := 0#32
  let v167 : BitVec 1 := Scalar.cmpi .ne v166 c0_i32_83
  let v171 : BitVec 1 := Scalar.andi v170 v167
  let v172 : BitVec 32 := Scalar.addi v166 v165
  let v173 : BitVec 32 := Scalar.select v171 v172 v166
  let c8_i32_86 : BitVec 32 := 8#32
  let v174 : BitVec 32 := Scalar.muli v173 c8_i32_86
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v175 : BitVec 32 := Scalar.addi v174 v29
  let c1_i32_111 : BitVec 32 := 1#32
  let v200 : BitVec 32 := Scalar.muli v175 c1_i32_111
  let v201 : BitVec 32 := Scalar.addi c0_i32_112 v200
  v201.toNat
def k0_dev7 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_87 : BitVec 32 := 3#32
  let v176 : BitVec 32 := Scalar.addi v19 c3_i32_87
  let c4_i32_88 : BitVec 32 := 4#32
  let c0_i32_89 : BitVec 32 := 0#32
  let v177 : BitVec 1 := Scalar.cmpi .eq c4_i32_88 c0_i32_89
  let c1_i32_90 : BitVec 32 := 1#32
  let v178 : BitVec 32 := Scalar.select v177 c1_i32_90 c4_i32_88
  let v179 : BitVec 32 := Scalar.remsi v176 v178
  let c0_i32_92 : BitVec 32 := 0#32
  let v181 : BitVec 1 := Scalar.cmpi .slt v179 c0_i32_92
  let c0_i32_93 : BitVec 32 := 0#32
  let v182 : BitVec 1 := Scalar.cmpi .slt v178 c0_i32_93
  let v183 : BitVec 1 := Scalar.xori v181 v182
  let c0_i32_91 : BitVec 32 := 0#32
  let v180 : BitVec 1 := Scalar.cmpi .ne v179 c0_i32_91
  let v184 : BitVec 1 := Scalar.andi v183 v180
  let v185 : BitVec 32 := Scalar.addi v179 v178
  let v186 : BitVec 32 := Scalar.select v184 v185 v179
  let c8_i32_94 : BitVec 32 := 8#32
  let v187 : BitVec 32 := Scalar.muli v186 c8_i32_94
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v188 : BitVec 32 := Scalar.addi v187 v29
  let c1_i32_114 : BitVec 32 := 1#32
  let v202 : BitVec 32 := Scalar.muli v188 c1_i32_114
  let v203 : BitVec 32 := Scalar.addi c0_i32_115 v202
  v203.toNat
def k0_dev8 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_23 : BitVec 32 := 1#32
  let v57 : BitVec 32 := Scalar.addi v2 c1_i32_23
  let c2_i32_24 : BitVec 32 := 2#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v2 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v58 : BitVec 32 := Scalar.muli c2_i32_24 v56
  let v59 : BitVec 32 := Scalar.subi v57 v58
  let c1_i32_133 : BitVec 32 := 1#32
  let v219 : BitVec 32 := Scalar.muli v59 c1_i32_133
  let v220 : BitVec 32 := Scalar.addi c0_i32_134 v219
  v220.toNat
def k0_dev9 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_23 : BitVec 32 := 1#32
  let v57 : BitVec 32 := Scalar.addi v2 c1_i32_23
  let c2_i32_24 : BitVec 32 := 2#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v2 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v58 : BitVec 32 := Scalar.muli c2_i32_24 v56
  let v59 : BitVec 32 := Scalar.subi v57 v58
  let c1_i32_160 : BitVec 32 := 1#32
  let v244 : BitVec 32 := Scalar.muli v59 c1_i32_160
  let v245 : BitVec 32 := Scalar.addi c0_i32_161 v244
  v245.toNat
def k0_dev10 (d0 : Dev nD) : Nat :=
  let c0_i32_236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_38 : BitVec 32 := 8#32
  let v86 : BitVec 32 := Scalar.muli v19 c8_i32_38
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_25 : BitVec 32 := 1#32
  let v60 : BitVec 32 := Scalar.addi v46 c1_i32_25
  let c4_i32 : BitVec 32 := 4#32
  let c0_i32_26 : BitVec 32 := 0#32
  let v61 : BitVec 1 := Scalar.cmpi .eq c4_i32 c0_i32_26
  let c1_i32_27 : BitVec 32 := 1#32
  let v62 : BitVec 32 := Scalar.select v61 c1_i32_27 c4_i32
  let v63 : BitVec 32 := Scalar.remsi v60 v62
  let c0_i32_29 : BitVec 32 := 0#32
  let v65 : BitVec 1 := Scalar.cmpi .slt v63 c0_i32_29
  let c0_i32_30 : BitVec 32 := 0#32
  let v66 : BitVec 1 := Scalar.cmpi .slt v62 c0_i32_30
  let v67 : BitVec 1 := Scalar.xori v65 v66
  let c0_i32_28 : BitVec 32 := 0#32
  let v64 : BitVec 1 := Scalar.cmpi .ne v63 c0_i32_28
  let v68 : BitVec 1 := Scalar.andi v67 v64
  let v69 : BitVec 32 := Scalar.addi v63 v62
  let v70 : BitVec 32 := Scalar.select v68 v69 v63
  let c2_i32_39 : BitVec 32 := 2#32
  let v87 : BitVec 32 := Scalar.muli v70 c2_i32_39
  let v88 : BitVec 32 := Scalar.addi v86 v87
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v2 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v71 : BitVec 32 := Scalar.addi v46 v70
  let c2_i32_31 : BitVec 32 := 2#32
  let c0_i32_32 : BitVec 32 := 0#32
  let v72 : BitVec 1 := Scalar.cmpi .eq c2_i32_31 c0_i32_32
  let c1_i32_33 : BitVec 32 := 1#32
  let v73 : BitVec 32 := Scalar.select v72 c1_i32_33 c2_i32_31
  let v74 : BitVec 32 := Scalar.remsi v71 v73
  let c0_i32_35 : BitVec 32 := 0#32
  let v76 : BitVec 1 := Scalar.cmpi .slt v74 c0_i32_35
  let c0_i32_36 : BitVec 32 := 0#32
  let v77 : BitVec 1 := Scalar.cmpi .slt v73 c0_i32_36
  let v78 : BitVec 1 := Scalar.xori v76 v77
  let c0_i32_34 : BitVec 32 := 0#32
  let v75 : BitVec 1 := Scalar.cmpi .ne v74 c0_i32_34
  let v79 : BitVec 1 := Scalar.andi v78 v75
  let v80 : BitVec 32 := Scalar.addi v74 v73
  let v81 : BitVec 32 := Scalar.select v79 v80 v74
  let v82 : BitVec 32 := Scalar.addi v56 v81
  let c2_i32_37 : BitVec 32 := 2#32
  let v83 : BitVec 32 := Scalar.muli c2_i32_37 v56
  let v84 : BitVec 32 := Scalar.muli v83 v81
  let v85 : BitVec 32 := Scalar.subi v82 v84
  let v89 : BitVec 32 := Scalar.addi v88 v85
  let c1_i32_235 : BitVec 32 := 1#32
  let v300 : BitVec 32 := Scalar.muli v89 c1_i32_235
  let v301 : BitVec 32 := Scalar.addi c0_i32_236 v300
  v301.toNat
def k0_dev11 (d0 : Dev nD) : Nat :=
  let c0_i32_250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_54 : BitVec 32 := 8#32
  let v116 : BitVec 32 := Scalar.muli v19 c8_i32_54
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_40 : BitVec 32 := 2#32
  let v90 : BitVec 32 := Scalar.addi v46 c2_i32_40
  let c4_i32_41 : BitVec 32 := 4#32
  let c0_i32_42 : BitVec 32 := 0#32
  let v91 : BitVec 1 := Scalar.cmpi .eq c4_i32_41 c0_i32_42
  let c1_i32_43 : BitVec 32 := 1#32
  let v92 : BitVec 32 := Scalar.select v91 c1_i32_43 c4_i32_41
  let v93 : BitVec 32 := Scalar.remsi v90 v92
  let c0_i32_45 : BitVec 32 := 0#32
  let v95 : BitVec 1 := Scalar.cmpi .slt v93 c0_i32_45
  let c0_i32_46 : BitVec 32 := 0#32
  let v96 : BitVec 1 := Scalar.cmpi .slt v92 c0_i32_46
  let v97 : BitVec 1 := Scalar.xori v95 v96
  let c0_i32_44 : BitVec 32 := 0#32
  let v94 : BitVec 1 := Scalar.cmpi .ne v93 c0_i32_44
  let v98 : BitVec 1 := Scalar.andi v97 v94
  let v99 : BitVec 32 := Scalar.addi v93 v92
  let v100 : BitVec 32 := Scalar.select v98 v99 v93
  let c2_i32_55 : BitVec 32 := 2#32
  let v117 : BitVec 32 := Scalar.muli v100 c2_i32_55
  let v118 : BitVec 32 := Scalar.addi v116 v117
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v2 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v101 : BitVec 32 := Scalar.addi v46 v100
  let c2_i32_47 : BitVec 32 := 2#32
  let c0_i32_48 : BitVec 32 := 0#32
  let v102 : BitVec 1 := Scalar.cmpi .eq c2_i32_47 c0_i32_48
  let c1_i32_49 : BitVec 32 := 1#32
  let v103 : BitVec 32 := Scalar.select v102 c1_i32_49 c2_i32_47
  let v104 : BitVec 32 := Scalar.remsi v101 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v112 : BitVec 32 := Scalar.addi v56 v111
  let c2_i32_53 : BitVec 32 := 2#32
  let v113 : BitVec 32 := Scalar.muli c2_i32_53 v56
  let v114 : BitVec 32 := Scalar.muli v113 v111
  let v115 : BitVec 32 := Scalar.subi v112 v114
  let v119 : BitVec 32 := Scalar.addi v118 v115
  let c1_i32_249 : BitVec 32 := 1#32
  let v310 : BitVec 32 := Scalar.muli v119 c1_i32_249
  let v311 : BitVec 32 := Scalar.addi c0_i32_250 v310
  v311.toNat
def k0_dev12 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_69 : BitVec 32 := 8#32
  let v146 : BitVec 32 := Scalar.muli v19 c8_i32_69
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v120 : BitVec 32 := Scalar.addi v46 c3_i32
  let c4_i32_56 : BitVec 32 := 4#32
  let c0_i32_57 : BitVec 32 := 0#32
  let v121 : BitVec 1 := Scalar.cmpi .eq c4_i32_56 c0_i32_57
  let c1_i32_58 : BitVec 32 := 1#32
  let v122 : BitVec 32 := Scalar.select v121 c1_i32_58 c4_i32_56
  let v123 : BitVec 32 := Scalar.remsi v120 v122
  let c0_i32_60 : BitVec 32 := 0#32
  let v125 : BitVec 1 := Scalar.cmpi .slt v123 c0_i32_60
  let c0_i32_61 : BitVec 32 := 0#32
  let v126 : BitVec 1 := Scalar.cmpi .slt v122 c0_i32_61
  let v127 : BitVec 1 := Scalar.xori v125 v126
  let c0_i32_59 : BitVec 32 := 0#32
  let v124 : BitVec 1 := Scalar.cmpi .ne v123 c0_i32_59
  let v128 : BitVec 1 := Scalar.andi v127 v124
  let v129 : BitVec 32 := Scalar.addi v123 v122
  let v130 : BitVec 32 := Scalar.select v128 v129 v123
  let c2_i32_70 : BitVec 32 := 2#32
  let v147 : BitVec 32 := Scalar.muli v130 c2_i32_70
  let v148 : BitVec 32 := Scalar.addi v146 v147
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v2 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v131 : BitVec 32 := Scalar.addi v46 v130
  let c2_i32_62 : BitVec 32 := 2#32
  let c0_i32_63 : BitVec 32 := 0#32
  let v132 : BitVec 1 := Scalar.cmpi .eq c2_i32_62 c0_i32_63
  let c1_i32_64 : BitVec 32 := 1#32
  let v133 : BitVec 32 := Scalar.select v132 c1_i32_64 c2_i32_62
  let v134 : BitVec 32 := Scalar.remsi v131 v133
  let c0_i32_66 : BitVec 32 := 0#32
  let v136 : BitVec 1 := Scalar.cmpi .slt v134 c0_i32_66
  let c0_i32_67 : BitVec 32 := 0#32
  let v137 : BitVec 1 := Scalar.cmpi .slt v133 c0_i32_67
  let v138 : BitVec 1 := Scalar.xori v136 v137
  let c0_i32_65 : BitVec 32 := 0#32
  let v135 : BitVec 1 := Scalar.cmpi .ne v134 c0_i32_65
  let v139 : BitVec 1 := Scalar.andi v138 v135
  let v140 : BitVec 32 := Scalar.addi v134 v133
  let v141 : BitVec 32 := Scalar.select v139 v140 v134
  let v142 : BitVec 32 := Scalar.addi v56 v141
  let c2_i32_68 : BitVec 32 := 2#32
  let v143 : BitVec 32 := Scalar.muli c2_i32_68 v56
  let v144 : BitVec 32 := Scalar.muli v143 v141
  let v145 : BitVec 32 := Scalar.subi v142 v144
  let v149 : BitVec 32 := Scalar.addi v148 v145
  let c1_i32_263 : BitVec 32 := 1#32
  let v320 : BitVec 32 := Scalar.muli v149 c1_i32_263
  let v321 : BitVec 32 := Scalar.addi c0_i32_264 v320
  v321.toNat
def k0_dev13 (d0 : Dev nD) : Nat :=
  let c0_i32_335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_38 : BitVec 32 := 8#32
  let v86 : BitVec 32 := Scalar.muli v19 c8_i32_38
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_25 : BitVec 32 := 1#32
  let v60 : BitVec 32 := Scalar.addi v46 c1_i32_25
  let c4_i32 : BitVec 32 := 4#32
  let c0_i32_26 : BitVec 32 := 0#32
  let v61 : BitVec 1 := Scalar.cmpi .eq c4_i32 c0_i32_26
  let c1_i32_27 : BitVec 32 := 1#32
  let v62 : BitVec 32 := Scalar.select v61 c1_i32_27 c4_i32
  let v63 : BitVec 32 := Scalar.remsi v60 v62
  let c0_i32_29 : BitVec 32 := 0#32
  let v65 : BitVec 1 := Scalar.cmpi .slt v63 c0_i32_29
  let c0_i32_30 : BitVec 32 := 0#32
  let v66 : BitVec 1 := Scalar.cmpi .slt v62 c0_i32_30
  let v67 : BitVec 1 := Scalar.xori v65 v66
  let c0_i32_28 : BitVec 32 := 0#32
  let v64 : BitVec 1 := Scalar.cmpi .ne v63 c0_i32_28
  let v68 : BitVec 1 := Scalar.andi v67 v64
  let v69 : BitVec 32 := Scalar.addi v63 v62
  let v70 : BitVec 32 := Scalar.select v68 v69 v63
  let c2_i32_39 : BitVec 32 := 2#32
  let v87 : BitVec 32 := Scalar.muli v70 c2_i32_39
  let v88 : BitVec 32 := Scalar.addi v86 v87
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v2 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v71 : BitVec 32 := Scalar.addi v46 v70
  let c2_i32_31 : BitVec 32 := 2#32
  let c0_i32_32 : BitVec 32 := 0#32
  let v72 : BitVec 1 := Scalar.cmpi .eq c2_i32_31 c0_i32_32
  let c1_i32_33 : BitVec 32 := 1#32
  let v73 : BitVec 32 := Scalar.select v72 c1_i32_33 c2_i32_31
  let v74 : BitVec 32 := Scalar.remsi v71 v73
  let c0_i32_35 : BitVec 32 := 0#32
  let v76 : BitVec 1 := Scalar.cmpi .slt v74 c0_i32_35
  let c0_i32_36 : BitVec 32 := 0#32
  let v77 : BitVec 1 := Scalar.cmpi .slt v73 c0_i32_36
  let v78 : BitVec 1 := Scalar.xori v76 v77
  let c0_i32_34 : BitVec 32 := 0#32
  let v75 : BitVec 1 := Scalar.cmpi .ne v74 c0_i32_34
  let v79 : BitVec 1 := Scalar.andi v78 v75
  let v80 : BitVec 32 := Scalar.addi v74 v73
  let v81 : BitVec 32 := Scalar.select v79 v80 v74
  let v82 : BitVec 32 := Scalar.addi v56 v81
  let c2_i32_37 : BitVec 32 := 2#32
  let v83 : BitVec 32 := Scalar.muli c2_i32_37 v56
  let v84 : BitVec 32 := Scalar.muli v83 v81
  let v85 : BitVec 32 := Scalar.subi v82 v84
  let v89 : BitVec 32 := Scalar.addi v88 v85
  let c1_i32_334 : BitVec 32 := 1#32
  let v366 : BitVec 32 := Scalar.muli v89 c1_i32_334
  let v367 : BitVec 32 := Scalar.addi c0_i32_335 v366
  v367.toNat
def k0_dev14 (d0 : Dev nD) : Nat :=
  let c0_i32_348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_54 : BitVec 32 := 8#32
  let v116 : BitVec 32 := Scalar.muli v19 c8_i32_54
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_40 : BitVec 32 := 2#32
  let v90 : BitVec 32 := Scalar.addi v46 c2_i32_40
  let c4_i32_41 : BitVec 32 := 4#32
  let c0_i32_42 : BitVec 32 := 0#32
  let v91 : BitVec 1 := Scalar.cmpi .eq c4_i32_41 c0_i32_42
  let c1_i32_43 : BitVec 32 := 1#32
  let v92 : BitVec 32 := Scalar.select v91 c1_i32_43 c4_i32_41
  let v93 : BitVec 32 := Scalar.remsi v90 v92
  let c0_i32_45 : BitVec 32 := 0#32
  let v95 : BitVec 1 := Scalar.cmpi .slt v93 c0_i32_45
  let c0_i32_46 : BitVec 32 := 0#32
  let v96 : BitVec 1 := Scalar.cmpi .slt v92 c0_i32_46
  let v97 : BitVec 1 := Scalar.xori v95 v96
  let c0_i32_44 : BitVec 32 := 0#32
  let v94 : BitVec 1 := Scalar.cmpi .ne v93 c0_i32_44
  let v98 : BitVec 1 := Scalar.andi v97 v94
  let v99 : BitVec 32 := Scalar.addi v93 v92
  let v100 : BitVec 32 := Scalar.select v98 v99 v93
  let c2_i32_55 : BitVec 32 := 2#32
  let v117 : BitVec 32 := Scalar.muli v100 c2_i32_55
  let v118 : BitVec 32 := Scalar.addi v116 v117
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v2 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v101 : BitVec 32 := Scalar.addi v46 v100
  let c2_i32_47 : BitVec 32 := 2#32
  let c0_i32_48 : BitVec 32 := 0#32
  let v102 : BitVec 1 := Scalar.cmpi .eq c2_i32_47 c0_i32_48
  let c1_i32_49 : BitVec 32 := 1#32
  let v103 : BitVec 32 := Scalar.select v102 c1_i32_49 c2_i32_47
  let v104 : BitVec 32 := Scalar.remsi v101 v103
  let c0_i32_51 : BitVec 32 := 0#32
  let v106 : BitVec 1 := Scalar.cmpi .slt v104 c0_i32_51
  let c0_i32_52 : BitVec 32 := 0#32
  let v107 : BitVec 1 := Scalar.cmpi .slt v103 c0_i32_52
  let v108 : BitVec 1 := Scalar.xori v106 v107
  let c0_i32_50 : BitVec 32 := 0#32
  let v105 : BitVec 1 := Scalar.cmpi .ne v104 c0_i32_50
  let v109 : BitVec 1 := Scalar.andi v108 v105
  let v110 : BitVec 32 := Scalar.addi v104 v103
  let v111 : BitVec 32 := Scalar.select v109 v110 v104
  let v112 : BitVec 32 := Scalar.addi v56 v111
  let c2_i32_53 : BitVec 32 := 2#32
  let v113 : BitVec 32 := Scalar.muli c2_i32_53 v56
  let v114 : BitVec 32 := Scalar.muli v113 v111
  let v115 : BitVec 32 := Scalar.subi v112 v114
  let v119 : BitVec 32 := Scalar.addi v118 v115
  let c1_i32_347 : BitVec 32 := 1#32
  let v376 : BitVec 32 := Scalar.muli v119 c1_i32_347
  let v377 : BitVec 32 := Scalar.addi c0_i32_348 v376
  v377.toNat
def k0_dev15 (d0 : Dev nD) : Nat :=
  let c0_i32_361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_69 : BitVec 32 := 8#32
  let v146 : BitVec 32 := Scalar.muli v19 c8_i32_69
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c3_i32 : BitVec 32 := 3#32
  let v120 : BitVec 32 := Scalar.addi v46 c3_i32
  let c4_i32_56 : BitVec 32 := 4#32
  let c0_i32_57 : BitVec 32 := 0#32
  let v121 : BitVec 1 := Scalar.cmpi .eq c4_i32_56 c0_i32_57
  let c1_i32_58 : BitVec 32 := 1#32
  let v122 : BitVec 32 := Scalar.select v121 c1_i32_58 c4_i32_56
  let v123 : BitVec 32 := Scalar.remsi v120 v122
  let c0_i32_60 : BitVec 32 := 0#32
  let v125 : BitVec 1 := Scalar.cmpi .slt v123 c0_i32_60
  let c0_i32_61 : BitVec 32 := 0#32
  let v126 : BitVec 1 := Scalar.cmpi .slt v122 c0_i32_61
  let v127 : BitVec 1 := Scalar.xori v125 v126
  let c0_i32_59 : BitVec 32 := 0#32
  let v124 : BitVec 1 := Scalar.cmpi .ne v123 c0_i32_59
  let v128 : BitVec 1 := Scalar.andi v127 v124
  let v129 : BitVec 32 := Scalar.addi v123 v122
  let v130 : BitVec 32 := Scalar.select v128 v129 v123
  let c2_i32_70 : BitVec 32 := 2#32
  let v147 : BitVec 32 := Scalar.muli v130 c2_i32_70
  let v148 : BitVec 32 := Scalar.addi v146 v147
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v2 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let v131 : BitVec 32 := Scalar.addi v46 v130
  let c2_i32_62 : BitVec 32 := 2#32
  let c0_i32_63 : BitVec 32 := 0#32
  let v132 : BitVec 1 := Scalar.cmpi .eq c2_i32_62 c0_i32_63
  let c1_i32_64 : BitVec 32 := 1#32
  let v133 : BitVec 32 := Scalar.select v132 c1_i32_64 c2_i32_62
  let v134 : BitVec 32 := Scalar.remsi v131 v133
  let c0_i32_66 : BitVec 32 := 0#32
  let v136 : BitVec 1 := Scalar.cmpi .slt v134 c0_i32_66
  let c0_i32_67 : BitVec 32 := 0#32
  let v137 : BitVec 1 := Scalar.cmpi .slt v133 c0_i32_67
  let v138 : BitVec 1 := Scalar.xori v136 v137
  let c0_i32_65 : BitVec 32 := 0#32
  let v135 : BitVec 1 := Scalar.cmpi .ne v134 c0_i32_65
  let v139 : BitVec 1 := Scalar.andi v138 v135
  let v140 : BitVec 32 := Scalar.addi v134 v133
  let v141 : BitVec 32 := Scalar.select v139 v140 v134
  let v142 : BitVec 32 := Scalar.addi v56 v141
  let c2_i32_68 : BitVec 32 := 2#32
  let v143 : BitVec 32 := Scalar.muli c2_i32_68 v56
  let v144 : BitVec 32 := Scalar.muli v143 v141
  let v145 : BitVec 32 := Scalar.subi v142 v144
  let v149 : BitVec 32 := Scalar.addi v148 v145
  let c1_i32_360 : BitVec 32 := 1#32
  let v386 : BitVec 32 := Scalar.muli v149 c1_i32_360
  let v387 : BitVec 32 := Scalar.addi c0_i32_361 v386
  v387.toNat
def k0_dev16 (d0 : Dev nD) : Nat :=
  let c0_i32_507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_71 : BitVec 32 := 1#32
  let v150 : BitVec 32 := Scalar.addi v19 c1_i32_71
  let c4_i32_72 : BitVec 32 := 4#32
  let c0_i32_73 : BitVec 32 := 0#32
  let v151 : BitVec 1 := Scalar.cmpi .eq c4_i32_72 c0_i32_73
  let c1_i32_74 : BitVec 32 := 1#32
  let v152 : BitVec 32 := Scalar.select v151 c1_i32_74 c4_i32_72
  let v153 : BitVec 32 := Scalar.remsi v150 v152
  let c0_i32_76 : BitVec 32 := 0#32
  let v155 : BitVec 1 := Scalar.cmpi .slt v153 c0_i32_76
  let c0_i32_77 : BitVec 32 := 0#32
  let v156 : BitVec 1 := Scalar.cmpi .slt v152 c0_i32_77
  let v157 : BitVec 1 := Scalar.xori v155 v156
  let c0_i32_75 : BitVec 32 := 0#32
  let v154 : BitVec 1 := Scalar.cmpi .ne v153 c0_i32_75
  let v158 : BitVec 1 := Scalar.andi v157 v154
  let v159 : BitVec 32 := Scalar.addi v153 v152
  let v160 : BitVec 32 := Scalar.select v158 v159 v153
  let c8_i32_78 : BitVec 32 := 8#32
  let v161 : BitVec 32 := Scalar.muli v160 c8_i32_78
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v162 : BitVec 32 := Scalar.addi v161 v29
  let c1_i32_506 : BitVec 32 := 1#32
  let v488 : BitVec 32 := Scalar.muli v162 c1_i32_506
  let v489 : BitVec 32 := Scalar.addi c0_i32_507 v488
  v489.toNat
def k0_dev17 (d0 : Dev nD) : Nat :=
  let c0_i32_519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_79 : BitVec 32 := 2#32
  let v163 : BitVec 32 := Scalar.addi v19 c2_i32_79
  let c4_i32_80 : BitVec 32 := 4#32
  let c0_i32_81 : BitVec 32 := 0#32
  let v164 : BitVec 1 := Scalar.cmpi .eq c4_i32_80 c0_i32_81
  let c1_i32_82 : BitVec 32 := 1#32
  let v165 : BitVec 32 := Scalar.select v164 c1_i32_82 c4_i32_80
  let v166 : BitVec 32 := Scalar.remsi v163 v165
  let c0_i32_84 : BitVec 32 := 0#32
  let v168 : BitVec 1 := Scalar.cmpi .slt v166 c0_i32_84
  let c0_i32_85 : BitVec 32 := 0#32
  let v169 : BitVec 1 := Scalar.cmpi .slt v165 c0_i32_85
  let v170 : BitVec 1 := Scalar.xori v168 v169
  let c0_i32_83 : BitVec 32 := 0#32
  let v167 : BitVec 1 := Scalar.cmpi .ne v166 c0_i32_83
  let v171 : BitVec 1 := Scalar.andi v170 v167
  let v172 : BitVec 32 := Scalar.addi v166 v165
  let v173 : BitVec 32 := Scalar.select v171 v172 v166
  let c8_i32_86 : BitVec 32 := 8#32
  let v174 : BitVec 32 := Scalar.muli v173 c8_i32_86
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v175 : BitVec 32 := Scalar.addi v174 v29
  let c1_i32_518 : BitVec 32 := 1#32
  let v498 : BitVec 32 := Scalar.muli v175 c1_i32_518
  let v499 : BitVec 32 := Scalar.addi c0_i32_519 v498
  v499.toNat
def k0_dev18 (d0 : Dev nD) : Nat :=
  let c0_i32_533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_87 : BitVec 32 := 3#32
  let v176 : BitVec 32 := Scalar.addi v19 c3_i32_87
  let c4_i32_88 : BitVec 32 := 4#32
  let c0_i32_89 : BitVec 32 := 0#32
  let v177 : BitVec 1 := Scalar.cmpi .eq c4_i32_88 c0_i32_89
  let c1_i32_90 : BitVec 32 := 1#32
  let v178 : BitVec 32 := Scalar.select v177 c1_i32_90 c4_i32_88
  let v179 : BitVec 32 := Scalar.remsi v176 v178
  let c0_i32_92 : BitVec 32 := 0#32
  let v181 : BitVec 1 := Scalar.cmpi .slt v179 c0_i32_92
  let c0_i32_93 : BitVec 32 := 0#32
  let v182 : BitVec 1 := Scalar.cmpi .slt v178 c0_i32_93
  let v183 : BitVec 1 := Scalar.xori v181 v182
  let c0_i32_91 : BitVec 32 := 0#32
  let v180 : BitVec 1 := Scalar.cmpi .ne v179 c0_i32_91
  let v184 : BitVec 1 := Scalar.andi v183 v180
  let v185 : BitVec 32 := Scalar.addi v179 v178
  let v186 : BitVec 32 := Scalar.select v184 v185 v179
  let c8_i32_94 : BitVec 32 := 8#32
  let v187 : BitVec 32 := Scalar.muli v186 c8_i32_94
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v188 : BitVec 32 := Scalar.addi v187 v29
  let c1_i32_532 : BitVec 32 := 1#32
  let v508 : BitVec 32 := Scalar.muli v188 c1_i32_532
  let v509 : BitVec 32 := Scalar.addi c0_i32_533 v508
  v509.toNat
def k0_dev19 (d0 : Dev nD) : Nat :=
  let c0_i32_677 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_71 : BitVec 32 := 1#32
  let v150 : BitVec 32 := Scalar.addi v19 c1_i32_71
  let c4_i32_72 : BitVec 32 := 4#32
  let c0_i32_73 : BitVec 32 := 0#32
  let v151 : BitVec 1 := Scalar.cmpi .eq c4_i32_72 c0_i32_73
  let c1_i32_74 : BitVec 32 := 1#32
  let v152 : BitVec 32 := Scalar.select v151 c1_i32_74 c4_i32_72
  let v153 : BitVec 32 := Scalar.remsi v150 v152
  let c0_i32_76 : BitVec 32 := 0#32
  let v155 : BitVec 1 := Scalar.cmpi .slt v153 c0_i32_76
  let c0_i32_77 : BitVec 32 := 0#32
  let v156 : BitVec 1 := Scalar.cmpi .slt v152 c0_i32_77
  let v157 : BitVec 1 := Scalar.xori v155 v156
  let c0_i32_75 : BitVec 32 := 0#32
  let v154 : BitVec 1 := Scalar.cmpi .ne v153 c0_i32_75
  let v158 : BitVec 1 := Scalar.andi v157 v154
  let v159 : BitVec 32 := Scalar.addi v153 v152
  let v160 : BitVec 32 := Scalar.select v158 v159 v153
  let c8_i32_78 : BitVec 32 := 8#32
  let v161 : BitVec 32 := Scalar.muli v160 c8_i32_78
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v162 : BitVec 32 := Scalar.addi v161 v29
  let c1_i32_676 : BitVec 32 := 1#32
  let v600 : BitVec 32 := Scalar.muli v162 c1_i32_676
  let v601 : BitVec 32 := Scalar.addi c0_i32_677 v600
  v601.toNat
def k0_dev20 (d0 : Dev nD) : Nat :=
  let c0_i32_690 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_79 : BitVec 32 := 2#32
  let v163 : BitVec 32 := Scalar.addi v19 c2_i32_79
  let c4_i32_80 : BitVec 32 := 4#32
  let c0_i32_81 : BitVec 32 := 0#32
  let v164 : BitVec 1 := Scalar.cmpi .eq c4_i32_80 c0_i32_81
  let c1_i32_82 : BitVec 32 := 1#32
  let v165 : BitVec 32 := Scalar.select v164 c1_i32_82 c4_i32_80
  let v166 : BitVec 32 := Scalar.remsi v163 v165
  let c0_i32_84 : BitVec 32 := 0#32
  let v168 : BitVec 1 := Scalar.cmpi .slt v166 c0_i32_84
  let c0_i32_85 : BitVec 32 := 0#32
  let v169 : BitVec 1 := Scalar.cmpi .slt v165 c0_i32_85
  let v170 : BitVec 1 := Scalar.xori v168 v169
  let c0_i32_83 : BitVec 32 := 0#32
  let v167 : BitVec 1 := Scalar.cmpi .ne v166 c0_i32_83
  let v171 : BitVec 1 := Scalar.andi v170 v167
  let v172 : BitVec 32 := Scalar.addi v166 v165
  let v173 : BitVec 32 := Scalar.select v171 v172 v166
  let c8_i32_86 : BitVec 32 := 8#32
  let v174 : BitVec 32 := Scalar.muli v173 c8_i32_86
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v175 : BitVec 32 := Scalar.addi v174 v29
  let c1_i32_689 : BitVec 32 := 1#32
  let v610 : BitVec 32 := Scalar.muli v175 c1_i32_689
  let v611 : BitVec 32 := Scalar.addi c0_i32_690 v610
  v611.toNat
def k0_dev21 (d0 : Dev nD) : Nat :=
  let c0_i32_703 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_87 : BitVec 32 := 3#32
  let v176 : BitVec 32 := Scalar.addi v19 c3_i32_87
  let c4_i32_88 : BitVec 32 := 4#32
  let c0_i32_89 : BitVec 32 := 0#32
  let v177 : BitVec 1 := Scalar.cmpi .eq c4_i32_88 c0_i32_89
  let c1_i32_90 : BitVec 32 := 1#32
  let v178 : BitVec 32 := Scalar.select v177 c1_i32_90 c4_i32_88
  let v179 : BitVec 32 := Scalar.remsi v176 v178
  let c0_i32_92 : BitVec 32 := 0#32
  let v181 : BitVec 1 := Scalar.cmpi .slt v179 c0_i32_92
  let c0_i32_93 : BitVec 32 := 0#32
  let v182 : BitVec 1 := Scalar.cmpi .slt v178 c0_i32_93
  let v183 : BitVec 1 := Scalar.xori v181 v182
  let c0_i32_91 : BitVec 32 := 0#32
  let v180 : BitVec 1 := Scalar.cmpi .ne v179 c0_i32_91
  let v184 : BitVec 1 := Scalar.andi v183 v180
  let v185 : BitVec 32 := Scalar.addi v179 v178
  let v186 : BitVec 32 := Scalar.select v184 v185 v179
  let c8_i32_94 : BitVec 32 := 8#32
  let v187 : BitVec 32 := Scalar.muli v186 c8_i32_94
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v188 : BitVec 32 := Scalar.addi v187 v29
  let c1_i32_702 : BitVec 32 := 1#32
  let v620 : BitVec 32 := Scalar.muli v188 c1_i32_702
  let v621 : BitVec 32 := Scalar.addi c0_i32_703 v620
  v621.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x32768 : Shape := ⟨2, ![2048, 32768]⟩
abbrev S_ : Shape := ⟨0, ![]⟩
abbrev S2048 : Shape := ⟨1, ![2048]⟩
abbrev S2048x1 : Shape := ⟨2, ![2048, 1]⟩

abbrev nBuf : Space → Nat
  | .hbm => 13
  | .vmem => 0
  | .smem => 0
  | _ => 0

abbrev bufTy : (tb : Table) → Fin (tcTables nBuf tb) → BufTy
  | .hbm, ⟨0, _⟩ => ⟨S2048x32768, .f32⟩
  | .hbm, ⟨1, _⟩ => ⟨S_, .f32⟩
  | .hbm, ⟨2, _⟩ => ⟨S2048, .f32⟩
  | .hbm, ⟨3, _⟩ => ⟨S2048x1, .f32⟩
  | .hbm, ⟨4, _⟩ => ⟨S2048x32768, .f32⟩
  | .hbm, ⟨5, _⟩ => ⟨S2048x32768, .f32⟩
  | .hbm, ⟨6, _⟩ => ⟨S2048x32768, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S2048x32768, .f32⟩
  | .hbm, ⟨11, _⟩ => ⟨S2048x32768, .f32⟩
  | .hbm, ⟨12, _⟩ => ⟨S2048x32768, .bf16⟩
  | _, _ => ⟨S2048x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Proof.Mesh.lean ====
/-
# The devices a device talks to

Thirty-two devices, device `p` at coordinates `z = p / 8`, `y = (p % 8) / 2`, `x` position `p % 2`. In the first phase a
device exchanges its statistics with its neighbour along `x`, in the second with the three devices of its column along
`y`, in the third with the three devices along `z`: seven partners, numbered 0 (`x`), 1 to 3 (`y`), 4 to 6 (`z`).
-/
module

public import proofs.«01_k».proof.Proof.Gen.KernelIdeal

@[expose] public section

namespace Cert.KernelProof

open Cert.KernelIdeal Cert.KernelIdeal.Gen
open Idealize.ShloMosaic

/-- The number of partner `i` of device `c`. -/
def peerVal (i : ℕ) (c : ℕ) : ℕ :=
  if i = 0 then c + 1 - 2 * (c % 2)
  else if i ≤ 3 then
    let y := c % 8 / 2
    let y' := (y + i) % 4
    c / 8 * 8 + y' * 2 + (c % 2 + (y + y') % 2) % 2
  else (c / 8 + (i - 3)) % 4 * 8 + c % 8

theorem peerVal_lt : ∀ (i : Fin 7) (c : Dev nD), peerVal i.val c.val < nD := by decide +kernel

set_option backward.proofsInPublic true in
/-- Partner `i` of device `c`. -/
def peer (i : Fin 7) (c : Dev nD) : Dev nD := ⟨peerVal i.val c.val, peerVal_lt i c⟩

/-- The number under which a device's partner `i` has the device itself as partner. -/
def inv : Fin 7 → Fin 7 := ![0, 3, 2, 1, 6, 5, 4]

theorem inv_inv : ∀ i : Fin 7, inv (inv i) = i := by decide

theorem peer_inv : ∀ (i : Fin 7) (c : Dev nD), peer (inv i) (peer i c) = c := by decide +kernel
theorem peer_inv' (i : Fin 7) (c : Dev nD) : peer i (peer (inv i) c) = c := by
  have := peer_inv (inv i) c; rwa [inv_inv] at this

/-- Partner `i`, over all the devices, is a permutation of them. -/
def peerEquiv (i : Fin 7) : Dev nD ≃ Dev nD := ⟨peer i, peer (inv i), peer_inv i, peer_inv' i⟩

/-- A device's seven partners are seven devices. -/
theorem peer_inj : ∀ (c : Dev nD) (i j : Fin 7), peer i c = peer j c → i = j := by decide +kernel

/-! The devices the program's words name: the seven signals in turn go to partners 0 to 6, and so do the seven copies of
each half. -/

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 3 c := by revert c; decide +kernel
theorem dev5_eq (c : Dev nD) : (⟨k0_dev5 c, k0_dev5_lt c⟩ : Dev nD) = peer 4 c := by revert c; decide +kernel
theorem dev6_eq (c : Dev nD) : (⟨k0_dev6 c, k0_dev6_lt c⟩ : Dev nD) = peer 5 c := by revert c; decide +kernel
theorem dev7_eq (c : Dev nD) : (⟨k0_dev7 c, k0_dev7_lt c⟩ : Dev nD) = peer 6 c := by revert c; decide +kernel
theorem dev8_eq (c : Dev nD) : (⟨k0_dev8 c, k0_dev8_lt c⟩ : Dev nD) = peer 0 c := by revert c; decide +kernel
theorem dev9_eq (c : Dev nD) : (⟨k0_dev9 c, k0_dev9_lt c⟩ : Dev nD) = peer 0 c := by revert c; decide +kernel
theorem dev10_eq (c : Dev nD) : (⟨k0_dev10 c, k0_dev10_lt c⟩ : Dev nD) = peer 1 c := by revert c; decide +kernel
theorem dev11_eq (c : Dev nD) : (⟨k0_dev11 c, k0_dev11_lt c⟩ : Dev nD) = peer 2 c := by revert c; decide +kernel
theorem dev12_eq (c : Dev nD) : (⟨k0_dev12 c, k0_dev12_lt c⟩ : Dev nD) = peer 3 c := by revert c; decide +kernel
theorem dev13_eq (c : Dev nD) : (⟨k0_dev13 c, k0_dev13_lt c⟩ : Dev nD) = peer 1 c := by revert c; decide +kernel
theorem dev14_eq (c : Dev nD) : (⟨k0_dev14 c, k0_dev14_lt c⟩ : Dev nD) = peer 2 c := by revert c; decide +kernel
theorem dev15_eq (c : Dev nD) : (⟨k0_dev15 c, k0_dev15_lt c⟩ : Dev nD) = peer 3 c := by revert c; decide +kernel
theorem dev16_eq (c : Dev nD) : (⟨k0_dev16 c, k0_dev16_lt c⟩ : Dev nD) = peer 4 c := by revert c; decide +kernel
theorem dev17_eq (c : Dev nD) : (⟨k0_dev17 c, k0_dev17_lt c⟩ : Dev nD) = peer 5 c := by revert c; decide +kernel
theorem dev18_eq (c : Dev nD) : (⟨k0_dev18 c, k0_dev18_lt c⟩ : Dev nD) = peer 6 c := by revert c; decide +kernel
theorem dev19_eq (c : Dev nD) : (⟨k0_dev19 c, k0_dev19_lt c⟩ : Dev nD) = peer 4 c := by revert c; decide +kernel
theorem dev20_eq (c : Dev nD) : (⟨k0_dev20 c, k0_dev20_lt c⟩ : Dev nD) = peer 5 c := by revert c; decide +kernel
theorem dev21_eq (c : Dev nD) : (⟨k0_dev21 c, k0_dev21_lt c⟩ : Dev nD) = peer 6 c := by revert c; decide +kernel

end Cert.KernelProof

end
-- ==== Proof.Slots.lean ====
/-
# The slots of the scratch buffer

The kernel's scratch buffer holds, per half of the rows, eight slots of two 8×128 tables: the running maxima and the
running sums. A slot is what a copy moves; a table is what a load or a store touches. Here: a slot's elements, what a
slot filled with a pair of tables reads back table by table, what storing two tables leaves, and that a copy from a
slot to a slot carries the pair over.
-/
module

public import proofs.«01_k».proof.Proof.Mesh
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The three buffers the body is called on: the staged block, the staged result, the scratch buffer. -/
abbrev xM : Memref sig .tc .vmem S2048x1024 .f32 := Memref.whole cc0_stg0_0
abbrev oM : Memref sig .tc .vmem S2048x1024 .bf16 := Memref.whole cc0_stg1_0
abbrev accM : Memref sig .tc .vmem S2x8x2x8x128 .f32 := Memref.whole cc0_scratch0

/-- A value for every element of the scratch buffer. -/
abbrev AccBuf (F : FTy → Type) : Type := (cc0_scratch0 : Ref sig .tc).ty.Contents (Elt F)

theorem slot_inb (h : Fin 2) (s : Fin 8) :
    ∀ a, (![h.val, s.val, 0, 0, 0] : Fin 5 → Nat) a + S1x1x2x8x128.size a ≤ S2x8x2x8x128.size a := by
  revert h s; decide
theorem table_inb (h : Fin 2) (s : Fin 8) (k : Fin 2) :
    ∀ a, (![h.val, s.val, k.val, 0, 0] : Fin 5 → Nat) a + S1x1x1x8x128.size a ≤ S2x8x2x8x128.size a := by
  revert h s k; decide

/-- Slot `s` of half `h`, and its table `k`, as rectangles of the scratch buffer. -/
abbrev slotR (h : Fin 2) (s : Fin 8) : Rect S2x8x2x8x128 :=
  Rect.unit (s := S2x8x2x8x128) ![h.val, s.val, 0, 0, 0] S1x1x2x8x128.size (slot_inb h s)
abbrev tableR (h : Fin 2) (s : Fin 8) (k : Fin 2) : Rect S2x8x2x8x128 :=
  Rect.unit (s := S2x8x2x8x128) ![h.val, s.val, k.val, 0, 0] S1x1x1x8x128.size (table_inb h s k)

/-- The slot as a copy names it. -/
abbrev slotM (h : Fin 2) (s : Fin 8) : Memref sig .tc .vmem S2x8x128 .f32 :=
  (accM.slice (slotR h s) (fun _ => rfl)).squeeze S2x8x128 squeezes_S1x1x2x8x128_S2x8x128

/-- The elements of slot `s` of half `h`. -/
def slotSet (h : Fin 2) (s : Fin 8) : Finset S2x8x2x8x128.Idx :=
  Finset.univ.filter fun i => (i 0).val = h.val ∧ (i 1).val = s.val

theorem mem_slotSet {h : Fin 2} {s : Fin 8} {i : S2x8x2x8x128.Idx} : i ∈ slotSet h s ↔ (i 0).val = h.val ∧ (i 1).val = s.val := by
  unfold slotSet; rw [Finset.mem_filter]; exact ⟨fun h => h.2, fun h => ⟨Finset.mem_univ _, h⟩⟩

theorem mem_slotR {h : Fin 2} {s : Fin 8} {i : S2x8x2x8x128.Idx} : i ∈ (slotR h s).set ↔ i ∈ slotSet h s := by
  rw [mem_slotSet, Rect.mem_set_unit]
  have h2 := (i 2).isLt; have h3 := (i 3).isLt; have h4 := (i 4).isLt
  constructor
  · intro H
    have a0 := H 0; have a1 := H 1
    simp at a0 a1
    omega
  · rintro ⟨e0, e1⟩ a
    fin_cases a <;> simp at h2 h3 h4 ⊢ <;> omega

theorem mem_tableR {h : Fin 2} {s : Fin 8} {k : Fin 2} {i : S2x8x2x8x128.Idx} :
    i ∈ (tableR h s k).set ↔ i ∈ slotSet h s ∧ (i 2).val = k.val := by
  rw [mem_slotSet, Rect.mem_set_unit]
  have h3 := (i 3).isLt; have h4 := (i 4).isLt
  constructor
  · intro H
    have a0 := H 0; have a1 := H 1; have a2 := H 2
    simp at a0 a1 a2
    omega
  · rintro ⟨⟨e0, e1⟩, e2⟩ a
    fin_cases a <;> simp at h3 h4 ⊢ <;> omega

theorem slotM_set (h : Fin 2) (s : Fin 8) : (slotM h s).view.set = slotSet h s := by
  refine (View.set_reshape _ _).trans ((View.set_slice_whole cc0_scratch0 (slotR h s)).trans (Finset.ext fun i => mem_slotR))

theorem access_table_set (h : Fin 2) (s : Fin 8) (k : Fin 2) : (accM.access (tableR h s k)).set = (tableR h s k).set :=
  View.set_slice_whole cc0_scratch0 (tableR h s k)

theorem table_subset (h : Fin 2) (s : Fin 8) (k : Fin 2) : (accM.access (tableR h s k)).set ⊆ slotSet h s := by
  rw [access_table_set]; exact fun i hi => (mem_tableR.mp hi).1

/-- Different slots have no element in common. -/
theorem slot_disjoint {h h' : Fin 2} {s s' : Fin 8} (hne : (h, s) ≠ (h', s')) : Disjoint (slotSet h s) (slotSet h' s') := by
  rw [Finset.disjoint_left]
  intro i hi hj
  rw [mem_slotSet] at hi hj
  exact hne (Prod.ext (Fin.ext (hi.1.symm.trans hj.1)) (Fin.ext (hi.2.symm.trans hj.2)))

/-! ## Contents -/

/-- A pair of tables: the running maxima and the running sums. -/
abbrev Stats (F : FTy → Type) : Type := FVec F S8x128 .f32 × FVec F S8x128 .f32

/-- A table as a load or a store of the scratch buffer has it: with three axes of extent one in front. -/
abbrev lift5 (M : FVec F S8x128 .f32) : FVec F S1x1x1x8x128 .f32 := shapeCast S1x1x1x8x128 M shapeCasts_S8x128_S1x1x1x8x128
abbrev drop5 (v : Vec F S1x1x1x8x128 .f32) : FVec F S8x128 .f32 := shapeCast S8x128 v shapeCasts_S1x1x1x8x128_S8x128

omit [FloatOps F] in
theorem drop5_lift5 (M : FVec F S8x128 .f32) : drop5 (lift5 M) = M := shapeCast_shapeCast M _ _

/-- The row and lane of an element of the scratch buffer, as an index of a table with three unit axes. -/
def lane (i : S2x8x2x8x128.Idx) : S1x1x1x8x128.Idx := fun a => match a with
  | ⟨0, _⟩ => ⟨0, Nat.one_pos⟩
  | ⟨1, _⟩ => ⟨0, Nat.one_pos⟩
  | ⟨2, _⟩ => ⟨0, Nat.one_pos⟩
  | ⟨3, _⟩ => i 3
  | ⟨4, _⟩ => i 4

/-- Table 0 everywhere `M`, the rest as in `f`. -/
def half (M : FVec F S8x128 .f32) (f : AccBuf F) : AccBuf F := fun i => if (i 2).val = 0 then lift5 M (lane i) else f i

/-- Every slot holding the pair `A`. -/
def fill (A : Stats F) : AccBuf F := half A.1 fun i => lift5 A.2 (lane i)

theorem lane_emb (h : Fin 2) (s : Fin 8) (k : Fin 2) (x : S1x1x1x8x128.Idx) : lane ((tableR h s k).emb x) = x := by
  funext a
  have h0 := (x 0).isLt; have h1 := (x 1).isLt; have h2 := (x 2).isLt
  fin_cases a
  · exact Fin.ext (by simp at h0; simp [lane, h0])
  · exact Fin.ext (by simp at h1; simp [lane, h1])
  · exact Fin.ext (by simp at h2; simp [lane, h2])
  · exact Fin.ext (by simp [lane, LoadRect.idx_apply])
  · exact Fin.ext (by simp [lane])

theorem emb_two (h : Fin 2) (s : Fin 8) (k : Fin 2) (x : S1x1x1x8x128.Idx) : ((tableR h s k).emb x 2).val = k.val := by
  have h2 := (x 2).isLt
  simp at h2
  simp [h2]

theorem read_table (h : Fin 2) (s : Fin 8) (k : Fin 2) (f : AccBuf F) :
    (accM.access (tableR h s k)).read (Elt F) f = fun x => f ((tableR h s k).emb x) := rfl

/-- A filled slot read back: table 0 is the maxima, table 1 the sums. -/
theorem read_fill_zero (h : Fin 2) (s : Fin 8) (A : Stats F) :
    (accM.access (tableR h s 0)).read (Elt F) (fill A) = lift5 A.1 := by
  rw [read_table]
  funext x
  have := emb_two h s 0 x
  unfold fill half
  rw [if_pos (by simpa using this), lane_emb]

theorem read_fill_one (h : Fin 2) (s : Fin 8) (A : Stats F) :
    (accM.access (tableR h s 1)).read (Elt F) (fill A) = lift5 A.2 := by
  rw [read_table]
  funext x
  have := emb_two h s 1 x
  unfold fill half
  rw [if_neg (by simpa using this)]; beta_reduce; rw [lane_emb]

/-- Storing the maxima changes, within the slot, table 0 only. -/
theorem write_table_zero (h : Fin 2) (s : Fin 8) (M : FVec F S8x128 .f32) (f : AccBuf F) :
    ∀ i ∈ slotSet h s, (accM.access (tableR h s 0)).write (Elt F) f (lift5 M) Finset.univ i = half M f i := by
  intro i hi
  by_cases h2 : (i 2).val = 0
  · have hm : i ∈ (accM.access (tableR h s 0)).set := by rw [access_table_set]; exact mem_tableR.mpr ⟨hi, h2⟩
    obtain ⟨x, -, rfl⟩ := Finset.mem_map.mp hm
    have hl : lane ((accM.access (tableR h s 0)).emb x) = x := lane_emb h s 0 x
    refine ((accM.access (tableR h s 0)).write_emb_of_mem f (lift5 M) (Finset.mem_univ x)).trans ?_
    unfold half
    rw [if_pos h2, hl]; rfl
  · refine ((accM.access (tableR h s 0)).write_of_not_mem f (lift5 M) Finset.univ ?_).trans ?_
    · rw [View.setOn_univ, access_table_set, mem_tableR]; exact fun hh => h2 hh.2
    · unfold half; rw [if_neg h2]

/-- Storing the sums after the maxima fills the slot. -/
theorem write_table_one (h : Fin 2) (s : Fin 8) (A : Stats F) (f : AccBuf F) :
    ∀ i ∈ slotSet h s, (accM.access (tableR h s 1)).write (Elt F) (half A.1 f) (lift5 A.2) Finset.univ i = fill A i := by
  intro i hi
  by_cases h2 : (i 2).val = 1
  · have hm : i ∈ (accM.access (tableR h s 1)).set := by rw [access_table_set]; exact mem_tableR.mpr ⟨hi, h2⟩
    obtain ⟨x, -, rfl⟩ := Finset.mem_map.mp hm
    have hl : lane ((accM.access (tableR h s 1)).emb x) = x := lane_emb h s 1 x
    refine ((accM.access (tableR h s 1)).write_emb_of_mem (half A.1 f) (lift5 A.2) (Finset.mem_univ x)).trans ?_
    unfold fill half
    rw [if_neg (by omega)]; beta_reduce; rw [hl]; rfl
  · refine ((accM.access (tableR h s 1)).write_of_not_mem (half A.1 f) (lift5 A.2) Finset.univ ?_).trans ?_
    · rw [View.setOn_univ, access_table_set, mem_tableR]; exact fun hh => h2 hh.2
    · have h3 := (i 2).isLt
      simp at h3
      unfold fill half
      rw [if_pos (by omega), if_pos (by omega)]

theorem fill_congr (A : Stats F) {i j : S2x8x2x8x128.Idx} (h2 : (i 2).val = (j 2).val) (h3 : i 3 = j 3) (h4 : i 4 = j 4) :
    fill A i = fill A j := by
  have : lane i = lane j := by
    funext a; fin_cases a
    · rfl
    · rfl
    · rfl
    · exact h3
    · exact h4
  unfold fill half
  beta_reduce
  rw [h2, this]

/-- A filled slot, copied to any slot, fills it with the same pair. -/
theorem land_fill (h h' : Fin 2) (s s' : Fin 8) (A : Stats F) (fd : AccBuf F) :
    ∀ i ∈ slotSet h' s', (slotM h' s').view.write (Elt F) fd ((slotM h s).view.read (Elt F) (fill A)) Finset.univ i = fill A i := by
  intro i hi
  rw [← slotM_set] at hi
  obtain ⟨x, -, rfl⟩ := Finset.mem_map.mp hi
  refine ((slotM h' s').view.write_emb_of_mem fd _ (Finset.mem_univ x)).trans ?_
  show fill A ((slotM h s).view.emb x) = fill A ((slotM h' s').view.emb x)
  have e : ∀ (h : Fin 2) (s : Fin 8) (a : Fin 5), ((slotM h s).view.emb x a).val
      = (![h.val, s.val, 0, 0, 0] : Fin 5 → ℕ) a + 1 * (Shape.reshapeEquiv squeezes_S1x1x2x8x128_S2x8x128.numel_eq x a).val :=
    fun h s a => rfl
  apply fill_congr
  · rw [e h s 2, e h' s' 2]; rfl
  · exact Fin.ext (by rw [e h s 3, e h' s' 3]; rfl)
  · exact Fin.ext (by rw [e h s 4, e h' s' 4]; rfl)

end Cert.KernelProof

end
-- ==== Proof.Schedule.lean ====
/-
# What each device computes, and the agreement the devices keep

First the statistics: every device starts, per half of its rows, with the maxima of its own columns and the sums of
exponentials below them; the first phase combines two such pairs, the second and the third four each. Then the
agreement: on its barrier semaphore a device receives seven units, one from each partner, and with each the two slots
of that partner it may write; on a send semaphore it receives back what a copy read; on a receive semaphore it receives
its own slot, filled with the partner's pair. Then who owes what at the start, and the order of the waits.
-/
module

public import proofs.«01_k».proof.Proof.Slots

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The statistics -/

/-- The pair of a block of rows: maxima along the columns, sums of the exponentials below them. -/
def statOf (x : Vec F S1024x1024 .f32) : Stats F := (k0_pay2 x, k0_pay3 x)

/-- Two pairs combined. -/
def comb2 (a b : Stats F) : Stats F :=
  let M : FVec F S8x128 .f32 := maximumf a.1 b.1
  (M, addf (mulf a.2 (exp (subf a.1 M))) (mulf b.2 (exp (subf b.1 M))))

/-- Four pairs combined. -/
def comb4 (a b c d : Stats F) : Stats F :=
  let M : FVec F S8x128 .f32 := maximumf (maximumf (maximumf a.1 b.1) c.1) d.1
  (M, addf (addf (addf (mulf a.2 (exp (subf a.1 M))) (mulf b.2 (exp (subf b.1 M)))) (mulf c.2 (exp (subf c.1 M))))
    (mulf d.2 (exp (subf d.1 M))))

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s block of the argument, as staged. -/
def xstg (c : Dev nD) : (cc0_stg0_0 : Ref sig .tc).ty.Contents (Elt F) :=
  (win0_0.blk (0 : Fin 1)).view.read (Elt F) ((s₀ m ρ).mem ((c : Thread nD τ).loc main_arg0))

/-- A half of the rows, as a rectangle of the block. -/
abbrev rowR : Fin 2 → Rect S2048x1024
  | 0 => Rect.unit (s := S2048x1024) ![0, 0] S1024x1024.size inb_S2048x1024_S1024x1024_0_0
  | 1 => Rect.unit (s := S2048x1024) ![1024, 0] S1024x1024.size inb_S2048x1024_S1024x1024_1024_0

/-- The rows of half 0 and of half 1 of device `c`'s block. -/
def xlo (c : Dev nD) : Vec F S1024x1024 .f32 := xM.view.readAt (Elt F) (rowR 0).toLoadRect (xstg m ρ c)
def xhi (c : Dev nD) : Vec F S1024x1024 .f32 := xM.view.readAt (Elt F) (rowR 1).toLoadRect (xstg m ρ c)
def xh : Fin 2 → Dev nD → Vec F S1024x1024 .f32
  | 0 => xlo m ρ
  | 1 => xhi m ρ

/-- Half `h`'s statistics on device `c`: at the start, after the first, the second and the third phase. -/
def St0 (h : Fin 2) (c : Dev nD) : Stats F := statOf (xh m ρ h c)
def St1 (h : Fin 2) (c : Dev nD) : Stats F := comb2 (St0 m ρ h c) (St0 m ρ h (peer 0 c))
def St2 (h : Fin 2) (c : Dev nD) : Stats F :=
  comb4 (St1 m ρ h c) (St1 m ρ h (peer 1 c)) (St1 m ρ h (peer 2 c)) (St1 m ρ h (peer 3 c))
def St3 (h : Fin 2) (c : Dev nD) : Stats F :=
  comb4 (St2 m ρ h c) (St2 m ρ h (peer 4 c)) (St2 m ρ h (peer 5 c)) (St2 m ρ h (peer 6 c))

/-- What device `c` sends partner `i` of half `h`. -/
def sent (h : Fin 2) (i : Fin 7) (c : Dev nD) : Stats F :=
  match i with
  | 0 => St0 m ρ h c
  | 1 => St1 m ρ h c
  | 2 => St1 m ρ h c
  | 3 => St1 m ρ h c
  | 4 => St2 m ρ h c
  | 5 => St2 m ρ h c
  | 6 => St2 m ρ h c

/-- The exponentials of half `h`, and the half's result. -/
def expsOf (h : Fin 2) (c : Dev nD) : FVec F S1024x1024 .bf16 := k0_pay11 (St0 m ρ h c).1 (xh m ρ h c)
def resOf (h : Fin 2) (c : Dev nD) : FVec F S1024x1024 .bf16 :=
  k0_pay55 (St0 m ρ h c).1 (St3 m ρ h c).1 (St3 m ρ h c).2 (expsOf m ρ h c)

/-- A device's result from its two halves. -/
def glue (A B : FVec F S1024x1024 .bf16) : (cc0_stg1_0 : Ref sig .tc).ty.Contents (Elt F) := fun i =>
  if h : (i 0).val < 1024 then A fun a => match a with | ⟨0, _⟩ => ⟨(i 0).val, h⟩ | ⟨1, _⟩ => i 1
  else B fun a => match a with
    | ⟨0, _⟩ => ⟨(i 0).val - 1024, by
        have hi : (i 0).val < 2048 := (i 0).isLt
        exact (by omega : (i 0).val - 1024 < 1024)⟩
    | ⟨1, _⟩ => i 1
def outAt (c : Dev nD) : (cc0_stg1_0 : Ref sig .tc).ty.Contents (Elt F) := glue (resOf m ρ 0 c) (resOf m ρ 1 c)

/-! ## The cells -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev barS : Sem sig := (SemArray.scalar (sig.barrier 0 rfl) : Sems sig S_).sem
/-- The semaphores of copy `i` of half `h`: the sender's and the receiver's. -/
def sendQ (h : Fin 2) (i : Fin 7) : DmaSem sig := (⟨2 + (7 * h.val + i.val), by have := h.isLt; have := i.isLt; omega⟩ : Fin 30)
def recvQ (h : Fin 2) (i : Fin 7) : DmaSem sig := (⟨16 + (7 * h.val + i.val), by have := h.isLt; have := i.isLt; omega⟩ : Fin 30)

abbrev barCell (c : Dev nD) : GSem nD τ sig := ((c : Thread nD τ), .reg barS)
abbrev sendCell (c : Dev nD) (h : Fin 2) (i : Fin 7) : GSem nD τ sig := ((c : Thread nD τ), .dma (sendQ h i))
abbrev recvCell (c : Dev nD) (h : Fin 2) (i : Fin 7) : GSem nD τ sig := ((c : Thread nD τ), .dma (recvQ h i))

/-- The kernel's own semaphores, and all of those the agreement is about: the barrier semaphore in front. -/
abbrev osem : Fin 28 → SemLoc sig := fun k => .dma (⟨2 + k.val, by have := k.isLt; omega⟩ : Fin 30)
abbrev csem : Fin 29 → SemLoc sig := Fin.cases (.reg barS) osem
abbrev kcell (ck : Dev nD × Fin 29) : GSem nD τ sig := ((ck.1 : Thread nD τ), csem ck.2)

/-- The places of the semaphores among all. -/
def sendIx (h : Fin 2) (i : Fin 7) : Fin 29 := ⟨1 + (7 * h.val + i.val), by have := h.isLt; have := i.isLt; omega⟩
def recvIx (h : Fin 2) (i : Fin 7) : Fin 29 := ⟨15 + (7 * h.val + i.val), by have := h.isLt; have := i.isLt; omega⟩
theorem csem_send : ∀ (h : Fin 2) (i : Fin 7), csem (sendIx h i) = .dma (sendQ h i) := by decide +kernel
theorem csem_recv : ∀ (h : Fin 2) (i : Fin 7), csem (recvIx h i) = .dma (recvQ h i) := by decide +kernel

/-- Which copy a semaphore belongs to, and on which side (`false`: the sender's). -/
def copyOf (q : DmaSem sig) : Option (Bool × Fin 2 × Fin 7) :=
  if (q : Fin 30).val < 2 then none
  else some (decide (16 ≤ (q : Fin 30).val), ⟨((q : Fin 30).val - 2) / 7 % 2, Nat.mod_lt _ (by decide)⟩,
    ⟨((q : Fin 30).val - 2) % 7, Nat.mod_lt _ (by decide)⟩)
theorem copyOf_send : ∀ (h : Fin 2) (i : Fin 7), copyOf (sendQ h i) = some (false, h, i) := by decide +kernel
theorem copyOf_recv : ∀ (h : Fin 2) (i : Fin 7), copyOf (recvQ h i) = some (true, h, i) := by decide +kernel

/-- The slot a copy to partner `i` fills. -/
def dslot : Fin 7 → Fin 8 := ![1, 4, 3, 2, 7, 6, 5]
theorem dslot_ne_zero : ∀ i : Fin 7, dslot i ≠ 0 := by decide
theorem dslot_inj : Function.Injective dslot := by decide

/-- The share of the slot 0 a copy reads with: all of it in the first phase, three parts of it in the others. -/
def shr : Fin 7 → PosShare TreeShare
  | 0 => fullShare
  | 1 => fullShare.left
  | 2 => fullShare.right.left
  | 3 => fullShare.right.right
  | 4 => fullShare.left
  | 5 => fullShare.right.left
  | 6 => fullShare.right.right

/-- The credit of a copy of one slot. -/
@[irreducible] def N : ℕ := (slotM 0 0).view.dmaCredit
theorem slot_credit (h : Fin 2) (s : Fin 8) : (slotM h s).view.dmaCredit = N := by unfold N; rfl
theorem N_pos : 0 < N := by unfold N; exact View.dmaCredit_pos _ (by decide)

/-- Slot `s` of half `h` on device `c`, held with share `q` at contents `f`. -/
def pt (c : Dev nD) (h : Fin 2) (s : Fin 8) (q : PosShare TreeShare) (f : AccBuf F) : sProp 𝕄 :=
  ((c : Thread nD τ).loc cc0_scratch0) ↦[slotSet h s]{q} f

omit [FloatOps F] in
instance pt_storable (c : Dev nD) (h : Fin 2) (s : Fin 8) (q : PosShare TreeShare) (f : AccBuf F) :
    BI.Storable (upEmb : UEmb _ 𝕄) (pt (F := F) c h s q f) := by unfold pt; infer_instance

/-- What partner `d`'s unit on the barrier brings device `c`: the two slots of the partner that `c`'s copies fill. -/
def barPay (c : Dev nD) (d : Fin 7) : sProp 𝕄 :=
  iprop(∃ f : AccBuf F, pt (peer d c) 0 (dslot d) fullShare f ∗ pt (peer d c) 1 (dslot d) fullShare f)
/-- What a copy read, back. -/
def sendPay (c : Dev nD) (h : Fin 2) (i : Fin 7) : sProp 𝕄 := pt c h 0 (shr i) (fill (sent m ρ h i c))
/-- The filled slot. -/
def recvPay (c : Dev nD) (h : Fin 2) (i : Fin 7) : sProp 𝕄 := pt c h (dslot i) fullShare (fill (sent m ρ h i (peer (inv i) c)))

def payOf (g : GSem nD τ sig) (d : Fin 7) : sProp 𝕄 :=
  match g.2 with
  | .reg _ => barPay g.1.1 d
  | .dma q => match copyOf q with
    | none => iprop(emp)
    | some (false, h, i) => sendPay m ρ g.1.1 h i
    | some (true, h, i) => recvPay m ρ g.1.1 h i

def dutiesOf (sm : SemLoc sig) : Finset (Fin 7) :=
  match sm with
  | .reg _ => Finset.univ
  | .dma q => match copyOf q with
    | none => ∅
    | some _ => {0}

/-- One round on every cell: seven units on a barrier cell, one copy's credit on a send or a receive cell. -/
def rd : Rounds.Schedule (GSem nD τ sig) (Fin 7) 𝕄 where
  duties g r := if r = 0 ∧ g.1.2 = .tc then dutiesOf g.2 else ∅
  unitless _ := False
  amount g _ _ := if g.2 = .reg barS then 1 else N
  payload g _ d := payOf m ρ g d
  amount_pos g _ _ _ := by
    by_cases h : g.2 = .reg barS
    · rw [if_pos h]; exact Nat.one_pos
    · rw [if_neg h]; exact N_pos

instance rd_payload_storable (g : GSem nD τ sig) (r : ℕ) (d : Fin 7) :
    BI.Storable (upEmb : UEmb _ 𝕄) ((rd (F := F) m ρ).payload g r d) := by
  show BI.Storable upEmb (payOf m ρ g d)
  unfold payOf barPay sendPay recvPay
  (repeat' split) <;> infer_instance

section Sched
variable (c : Dev nD) (h : Fin 2) (i : Fin 7)

theorem dma_ne_bar (q : DmaSem sig) : (SemLoc.dma q : SemLoc sig) ≠ .reg barS := fun h => by cases h

theorem duties_bar : (rd (F := F) m ρ).duties (barCell c) 0 = Finset.univ := by dsimp only [rd]; exact if_pos ⟨rfl, rfl⟩
theorem duties_send : (rd (F := F) m ρ).duties (sendCell c h i) 0 = {0} := by
  dsimp only [rd]; rw [if_pos ⟨rfl, rfl⟩]; dsimp only [dutiesOf]; rw [copyOf_send]
theorem duties_recv : (rd (F := F) m ρ).duties (recvCell c h i) 0 = {0} := by
  dsimp only [rd]; rw [if_pos ⟨rfl, rfl⟩]; dsimp only [dutiesOf]; rw [copyOf_recv]
theorem duties_later (g : GSem nD τ sig) : ∀ r, 1 ≤ r → (rd (F := F) m ρ).duties g r = ∅ :=
  fun r hr => by dsimp only [rd]; rw [if_neg fun h => by omega]

theorem amount_bar (d : Fin 7) : (rd (F := F) m ρ).amount (barCell c) 0 d = 1 := by dsimp only [rd]; exact if_pos rfl
theorem amount_send (d : Fin 7) : (rd (F := F) m ρ).amount (sendCell c h i) 0 d = N := by dsimp only [rd]; exact if_neg (dma_ne_bar _)
theorem amount_recv (d : Fin 7) : (rd (F := F) m ρ).amount (recvCell c h i) 0 d = N := by dsimp only [rd]; exact if_neg (dma_ne_bar _)

theorem expect_bar : (rd (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_send : (rd (F := F) m ρ).expect (sendCell c h i) 0 = N := by
  unfold Schedule.expect Schedule.amountOf; rw [duties_send, Finset.sum_singleton, amount_send]
theorem expect_recv : (rd (F := F) m ρ).expect (recvCell c h i) 0 = N := by
  unfold Schedule.expect Schedule.amountOf; rw [duties_recv, Finset.sum_singleton, amount_recv]

theorem payload_bar (d : Fin 7) : (rd (F := F) m ρ).payload (barCell c) 0 d = barPay c d := rfl
theorem payload_send (d : Fin 7) : (rd (F := F) m ρ).payload (sendCell c h i) 0 d = sendPay m ρ c h i := by
  dsimp only [rd, payOf]; rw [copyOf_send]
theorem payload_recv (d : Fin 7) : (rd (F := F) m ρ).payload (recvCell c h i) 0 d = recvPay m ρ c h i := by
  dsimp only [rd, payOf]; rw [copyOf_recv]

/-- What a barrier's wait brings: the payloads of all seven units. -/
theorem rest_bar : bigSep ((rd (F := F) m ρ).duties (barCell c) 0 \ ∅) (fun d => (rd (F := F) m ρ).payload (barCell c) 0 d)
    = bigSep Finset.univ fun d : Fin 7 => (barPay c d : sProp 𝕄) := by
  rw [Finset.sdiff_empty, duties_bar]; rfl
theorem rest_send : bigSep ((rd (F := F) m ρ).duties (sendCell c h i) 0 \ ∅) (fun d => (rd (F := F) m ρ).payload (sendCell c h i) 0 d)
    = sendPay m ρ c h i := by
  rw [Finset.sdiff_empty, duties_send, bigSep_singleton, payload_send]
theorem rest_recv : bigSep ((rd (F := F) m ρ).duties (recvCell c h i) 0 \ ∅) (fun d => (rd (F := F) m ρ).payload (recvCell c h i) 0 d)
    = recvPay m ρ c h i := by
  rw [Finset.sdiff_empty, duties_recv, bigSep_singleton, payload_recv]

end Sched

/-! ## What is owed, and in which order -/

/-- A payment: a unit on partner `i`'s barrier, or the credit of the copy to partner `i` of half `h`. -/
inductive Pay where
  | unit (i : Fin 7)
  | copy (h : Fin 2) (i : Fin 7)

def Pay.cell (c : Dev nD) : Pay → GSem nD τ sig
  | .unit i => barCell (peer i c)
  | .copy h i => recvCell (peer i c) h i
def Pay.amt : Pay → ℕ
  | .unit _ => 1
  | .copy _ _ => N
/-- The place of a payment in the order: barrier, then the three phases. -/
def Pay.rank : Pay → ℕ
  | .unit _ => 1
  | .copy _ i => if i = 0 then 2 else if i.val ≤ 3 then 3 else 4

/-- What device `c` owes when the payments `l` are still to be made. -/
def owed (c : Dev nD) : List Pay → CellTallies nD τ sig Unit
  | [] => 0
  | x :: l => owed c l + tallyAt (x.cell c) () x.amt

/-- The copies from the second phase's first half on, and all the payments, in the program's order. -/
def allPays : List Pay :=
  [.unit 0, .unit 1, .unit 2, .unit 3, .unit 4, .unit 5, .unit 6, .copy 0 0, .copy 1 0, .copy 0 1, .copy 0 2, .copy 0 3,
    .copy 1 1, .copy 1 2, .copy 1 3, .copy 0 4, .copy 0 5, .copy 0 6, .copy 1 4, .copy 1 5, .copy 1 6]

def L (g : GSem nD τ sig) : Finset Unit := if g.1.2 = .tc then {()} else ∅
/-- The order of the waits: staging and sending at 0, the barrier at 1, the phases' receiving at 2, 3, 4. -/
def rankOf (sm : SemLoc sig) : ℕ :=
  match sm with
  | .reg _ => 1
  | .dma q => match copyOf q with
    | some (true, h, i) => (Pay.copy h i).rank
    | _ => 0
def lv (g : GSem nD τ sig) (_ : Unit) : ℕ := rankOf g.2

theorem L_of_ne (g : GSem nD τ sig) (h : g.1.2 ≠ .tc) : L g = ∅ := if_neg h
theorem L_tc (c : Dev nD) (sm : SemLoc sig) : L ((c : Thread nD τ), sm) = {()} := if_pos rfl

theorem lv_cell (c : Dev nD) (x : Pay) : lv (x.cell c) () = x.rank := by
  cases x with
  | unit i => rfl
  | copy h i => dsimp only [lv, Pay.cell, rankOf]; rw [copyOf_recv]
theorem L_cell (c : Dev nD) (x : Pay) : L (x.cell c) = {()} := by cases x <;> exact if_pos rfl
theorem rank_send (h : Fin 2) (i : Fin 7) : rankOf (.dma (sendQ h i)) = 0 := by dsimp only [rankOf]; rw [copyOf_send]
theorem rank_recv (h : Fin 2) (i : Fin 7) : rankOf (.dma (recvQ h i)) = (Pay.copy h i).rank := by dsimp only [rankOf]; rw [copyOf_recv]
theorem rank_pos (x : Pay) : 0 < x.rank := by
  cases x with
  | unit i => exact Nat.one_pos
  | copy h i => dsimp only [Pay.rank]; split_ifs <;> decide

theorem owed_pos {c : Dev nD} {g : GSem nD τ sig} {u : Unit} : ∀ {l : List Pay}, 0 < owed c l g u → ∃ x ∈ l, g = x.cell c
  | [], h => absurd h (Nat.lt_irrefl 0)
  | x :: l, h => by
    unfold owed at h
    rw [Pi.add_apply, Finsupp.add_apply, tallyAt_apply] at h
    by_cases hx : g = x.cell c
    · exact ⟨x, List.mem_cons_self, hx⟩
    · rw [if_neg fun h' => hx h'.1, Nat.add_zero] at h
      obtain ⟨y, hy, e⟩ := owed_pos h
      exact ⟨y, List.mem_cons_of_mem _ hy, e⟩

/-- A device may wait on a semaphore when all it still owes comes later in the order. -/
theorem mayWait (c : Dev nD) (sm : SemLoc sig) (l : List Pay) (hl : ∀ x ∈ l, rankOf sm < x.rank) :
    (levAts L lv : sProp 𝕄) ⊢ MayWait (c : Thread nD τ) sm () (owed c l) :=
  MayOwe.of_cut (L := L) (lev := lv) (rankOf sm) (fun p hp => by rw [Finset.mem_singleton.mp hp, L_tc]; exact Finset.mem_singleton_self _)
    (fun g u hg => by obtain ⟨x, -, rfl⟩ := owed_pos hg; rw [L_cell]; exact Finset.mem_singleton_self _)
    (fun p hp => by rw [Finset.mem_singleton.mp hp]; exact Nat.le_refl _)
    (fun g u hg => by obtain ⟨x, hx, rfl⟩ := owed_pos hg; rw [lv_cell]; exact hl x hx)

end Cert.KernelProof

end
-- ==== Proof.Softmax.lean ====
/-
# The kernel's result in exact arithmetic

A row's pair of statistics, a maximum and a sum of exponentials below it, stands for the sum of the plain exponentials:
the sum times the exponential of the maximum. Combining pairs adds what they stand for, so after the three phases every
device holds the sum over the whole row, and the result is each exponential over that sum.
-/
module

public import proofs.«01_k».proof.Proof.Schedule
public import Idealize.ShloMosaic.PureOps.Ideal.Laws
public import Idealize.ShloMosaic.PureOps.Reduce
public import Idealize.ShloMosaic.Lib.Pipeline.Value
public import Idealize.ShloMosaic.Lib.ValueIdx
public import Idealize.ShloMosaic.Lib.IdealHost

@[expose] public section

set_option maxRecDepth 20000

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! ## Real numbers among the extended ones -/

theorem max_real (a b : ℝ) : max (a : EReal) (b : EReal) = ((max a b : ℝ) : EReal) := (EReal.coe_strictMono.monotone.map_max).symm

theorem sum_real {ι : Type} (s : Finset ι) (f : ι → ℝ) : (∑ i ∈ s, (f i : EReal)) = ((∑ i ∈ s, f i : ℝ) : EReal) :=
  (map_sum (⟨⟨fun r : ℝ => (r : EReal), EReal.coe_zero⟩, EReal.coe_add⟩ : ℝ →+ EReal) f s).symm

/-- The greatest of some real numbers, taken from −∞: −∞ of none, else a real number. -/
theorem fold_max_real {ι : Type} [DecidableEq ι] (s : Finset ι) (f : ι → EReal) (g : ι → ℝ) (h : ∀ i, f i = (g i : EReal)) :
    (s = ∅ ∧ s.fold max ⊥ f = ⊥) ∨ ∃ r : ℝ, s.fold max ⊥ f = (r : EReal) := by
  induction s using Finset.induction_on with
  | empty => exact .inl ⟨rfl, rfl⟩
  | insert a s ha ih =>
    refine .inr ?_
    rw [Finset.fold_insert ha, h a]
    rcases ih with ⟨-, e⟩ | ⟨r, e⟩
    · exact ⟨g a, by rw [e]; exact max_eq_left bot_le⟩
    · exact ⟨max (g a) r, by rw [e, max_real]⟩

theorem greatest_real {n : ℕ} (hn : 0 < n) (f : Fin n → EReal) (g : Fin n → ℝ) (h : ∀ i, f i = (g i : EReal)) :
    ∃ r : ℝ, (Finset.univ : Finset (Fin n)).fold max ⊥ f = (r : EReal) := by
  rcases fold_max_real Finset.univ f g h with ⟨e, -⟩ | e
  · exact absurd e (Finset.univ_nonempty_iff.mpr ⟨⟨0, hn⟩⟩).ne_empty
  · exact e

theorem exp_below (a b : ℝ) : Ideal.exp ((a : EReal) - (b : EReal)) = ((Real.exp (a - b) : ℝ) : EReal) := by
  rw [← EReal.coe_sub, Ideal.exp_coe]

theorem minus_inf : Ideal.ofBits .f32 0xFF800000#32 = ⊥ := by simp [Ideal.ofBits, Ideal.ieee]

/-! ## What a pair stands for -/

/-- The pair at `j` is two real numbers, the second times the exponential of the first being `μ`. -/
def Mass (A : Stats Ideal) (j : S8x128.Idx) (μ : ℝ) : Prop :=
  ∃ r t : ℝ, A.1 j = (r : EReal) ∧ A.2 j = (t : EReal) ∧ t * Real.exp r = μ

theorem shift (t r R : ℝ) : (t : EReal) * Ideal.exp ((r : EReal) - (R : EReal)) = ((t * Real.exp (r - R) : ℝ) : EReal) := by
  rw [exp_below, EReal.coe_mul]
theorem shift_back (t r R : ℝ) : t * Real.exp (r - R) * Real.exp R = t * Real.exp r := by
  rw [mul_assoc, ← Real.exp_add, sub_add_cancel]

/-- Combining two pairs adds what they stand for. -/
theorem mass_two {A B : Stats Ideal} {j : S8x128.Idx} {μ ν : ℝ} (hA : Mass A j μ) (hB : Mass B j ν) : Mass (comb2 A B) j (μ + ν) := by
  obtain ⟨a, s, ha, hs, rfl⟩ := hA
  obtain ⟨b, t, hb, ht, rfl⟩ := hB
  have h1 : (comb2 A B).1 j = ((max a b : ℝ) : EReal) := by
    show max (A.1 j : EReal) (B.1 j) = _
    rw [ha, hb, max_real]
  refine ⟨max a b, s * Real.exp (a - max a b) + t * Real.exp (b - max a b), h1, ?_, ?_⟩
  · show (A.2 j : EReal) * Ideal.exp ((A.1 j : EReal) - (comb2 A B).1 j) + (B.2 j : EReal) * Ideal.exp ((B.1 j : EReal) - (comb2 A B).1 j) = _
    rw [h1, ha, hb, hs, ht, shift, shift, EReal.coe_add]
  · rw [add_mul, shift_back, shift_back]

/-- And so does combining four. -/
theorem mass_four {A B C D : Stats Ideal} {j : S8x128.Idx} {μ ν ξ ω : ℝ} (hA : Mass A j μ) (hB : Mass B j ν) (hC : Mass C j ξ)
    (hD : Mass D j ω) : Mass (comb4 A B C D) j (μ + ν + ξ + ω) := by
  obtain ⟨a, s, ha, hs, rfl⟩ := hA
  obtain ⟨b, t, hb, ht, rfl⟩ := hB
  obtain ⟨c, u, hc, hu, rfl⟩ := hC
  obtain ⟨d, v, hd, hv, rfl⟩ := hD
  have h1 : (comb4 A B C D).1 j = ((max (max (max a b) c) d : ℝ) : EReal) := by
    show max (max (max (A.1 j : EReal) (B.1 j)) (C.1 j)) (D.1 j) = _
    rw [ha, hb, hc, hd, max_real, max_real, max_real]
  generalize max (max (max a b) c) d = R at h1
  refine ⟨R, s * Real.exp (a - R) + t * Real.exp (b - R) + u * Real.exp (c - R) + v * Real.exp (d - R), h1, ?_, ?_⟩
  · show (A.2 j : EReal) * Ideal.exp ((A.1 j : EReal) - (comb4 A B C D).1 j) + (B.2 j : EReal) * Ideal.exp ((B.1 j : EReal) - (comb4 A B C D).1 j)
      + (C.2 j : EReal) * Ideal.exp ((C.1 j : EReal) - (comb4 A B C D).1 j) + (D.2 j : EReal) * Ideal.exp ((D.1 j : EReal) - (comb4 A B C D).1 j) = _
    rw [h1, ha, hb, hc, hd, hs, ht, hu, hv, shift, shift, shift, shift, EReal.coe_add, EReal.coe_add, EReal.coe_add]
  · rw [add_mul, add_mul, add_mul, shift_back, shift_back, shift_back, shift_back]

/-! ## A device's own pair -/

/-- Row `r` of a half among the eight groups of 128 rows. -/
def rowIx (r : Fin 1024) : S8x128.Idx := ix2 ⟨r.val / 128, by have := r.isLt; omega⟩ ⟨r.val % 128, Nat.mod_lt _ (by decide)⟩
def cellIx (r k : Fin 1024) : S8x128x1024.Idx := ix3 ⟨r.val / 128, by have := r.isLt; omega⟩ ⟨r.val % 128, Nat.mod_lt _ (by decide)⟩ k

theorem row_pos (r k : Fin 1024) : (S1024x1024.rowMajor (ix2 r k)).val = (S8x128x1024.rowMajor (cellIx r k)).val := by
  rw [Shape.rowMajor_val_two, Shape.rowMajor_val_three]
  show r.val * 1024 + k.val = (r.val / 128 * 128 + r.val % 128) * 1024 + k.val
  omega

theorem lift_row (r k : Fin 1024) : reduces_S8x128x1024_S8x128.lift (rowIx r) k = cellIx r k := by
  funext a
  apply Fin.ext
  match a with
  | ⟨0, _⟩ => rfl
  | ⟨1, _⟩ => rfl
  | ⟨2, _⟩ => rfl

theorem grouped_at {α : Type} (x : S1024x1024.Idx → α) (r k : Fin 1024) :
    shapeCast S8x128x1024 (shapeCast S1024x1024 x shapeCasts_S1024x1024_S1024x1024) shapeCasts_S1024x1024_S8x128x1024 (cellIx r k) = x (ix2 r k) := by
  rw [shapeCast_apply _ _ _ (ix2 r k) (row_pos r k), shapeCast_apply _ _ _ (ix2 r k) rfl]

theorem spread_at {α : Type} (y : S8x128.Idx → α) (r k : Fin 1024) :
    broadcastTo S8x128x1024 (shapeCast S8x128x1 y shapeCasts_S8x128_S8x128x1) broadcasts_S8x128x1_S8x128x1024 (cellIx r k) = y (rowIx r) := by
  rw [broadcastTo_apply _ _ _ (ix3 ⟨r.val / 128, by have := r.isLt; omega⟩ ⟨r.val % 128, Nat.mod_lt _ (by decide)⟩ 0 : S8x128x1.Idx)
    (fun a => by match a with
      | ⟨0, _⟩ => rfl
      | ⟨1, _⟩ => rfl
      | ⟨2, _⟩ => rfl)]
  refine shapeCast_apply _ _ _ (rowIx r) ?_
  rw [Shape.rowMajor_val_two, Shape.rowMajor_val_three]
  show r.val / 128 * 128 + r.val % 128 = (r.val / 128 * 128 + r.val % 128) * 1 + 0
  omega

/-- The maximum of row `r`, and the sum below it. -/
theorem stat_max (x : Vec Ideal S1024x1024 .f32) (r : Fin 1024) :
    (statOf x).1 (rowIx r) = (Finset.univ : Finset (Fin 1024)).fold max ⊥ fun k => (x (ix2 r k) : EReal) := by
  unfold statOf
  dsimp only
  unfold k0_pay2
  refine (Ideal.multiReduction_maximumf_single _ _ _ _ _ _).trans ?_
  have e : (k0_pay1 x ∘ reduces_S8x128x1024_S8x128.lift (rowIx r)) = fun k : Fin 1024 => x (ix2 r k) := by
    exact funext fun (k : Fin 1024) => (congrArg (k0_pay1 x) (lift_row r k)).trans (grouped_at x r k)
  exact (congrArg₂ (fun z f => (Finset.univ : Finset (Fin 1024)).fold max z f) minus_inf e)

theorem stat_sum (x : Vec Ideal S1024x1024 .f32) (r : Fin 1024) :
    (statOf x).2 (rowIx r) = ∑ k : Fin 1024, Ideal.exp ((x (ix2 r k) : EReal) - (statOf x).1 (rowIx r)) := by
  unfold statOf
  dsimp only
  unfold k0_pay3
  dsimp only
  refine (Ideal.multiReduction_add_single _ _ _ _ _ _).trans ?_
  refine Finset.sum_congr rfl fun (k : Fin 1024) _ => ?_
  have e (V : S8x128x1024.Idx → EReal) : V (reduces_S8x128x1024_S8x128.lift (rowIx r) k) = V (cellIx r k) := congrArg V (lift_row r k)
  refine (e _).trans ?_
  exact congrArg Ideal.exp (congrArg₂ (fun a b : EReal => a - b) (grouped_at x r k) (spread_at (k0_pay2 x) r k))

/-- A row of real numbers: its pair stands for the sum of their exponentials. -/
theorem mass_stat (x : Vec Ideal S1024x1024 .f32) (r : Fin 1024) (g : Fin 1024 → ℝ) (h : ∀ k, x (ix2 r k) = (g k : EReal)) :
    Mass (statOf x) (rowIx r) (∑ k, Real.exp (g k)) := by
  obtain ⟨R, hR⟩ := greatest_real (by decide : 0 < 1024) (fun k => (x (ix2 r k) : EReal)) g h
  have h1 : (statOf x).1 (rowIx r) = (R : EReal) := (stat_max x r).trans hR
  refine ⟨R, ∑ k, Real.exp (g k - R), h1, ?_, ?_⟩
  · rw [stat_sum, h1, ← sum_real]
    exact Finset.sum_congr rfl fun k _ => by rw [h k, exp_below]
  · rw [Finset.sum_mul]
    exact Finset.sum_congr rfl fun k _ => by rw [← Real.exp_add, sub_add_cancel]

/-! ## The result -/

/-- The result at row `r` and column `k`, from the row's own pair and the whole row's. -/
theorem result_at (A G : Stats Ideal) (x : Vec Ideal S1024x1024 .f32) (r k : Fin 1024) :
    k0_pay55 A.1 G.1 G.2 (k0_pay11 A.1 x) (ix2 r k)
      = Ideal.exp ((x (ix2 r k) : EReal) - A.1 (rowIx r)) * Ideal.div (Ideal.exp ((A.1 (rowIx r) : EReal) - G.1 (rowIx r))) (G.2 (rowIx r)) := by
  unfold k0_pay55
  rw [shapeCast_apply _ _ _ (cellIx r k) (row_pos r k).symm]
  show (shapeCast S8x128x1024 _ _ (cellIx r k) : EReal) * broadcastTo S8x128x1024 _ _ (cellIx r k) = _
  rw [spread_at, grouped_at]
  refine congrArg (fun z : EReal => z * Ideal.div (Ideal.exp ((A.1 (rowIx r) : EReal) - G.1 (rowIx r))) (G.2 (rowIx r))) ?_
  unfold k0_pay11
  rw [truncf_apply, shapeCast_apply _ _ _ (cellIx r k) (row_pos r k).symm]
  show Ideal.exp ((shapeCast S8x128x1024 _ _ (cellIx r k) : EReal) - broadcastTo S8x128x1024 _ _ (cellIx r k)) = _
  rw [spread_at, grouped_at]

/-- Where the whole row's pair stands for `μ`, the result is the exponential over `μ`. -/
theorem result_mass (G : Stats Ideal) (x : Vec Ideal S1024x1024 .f32) (r k : Fin 1024) (g : Fin 1024 → ℝ)
    (h : ∀ k, x (ix2 r k) = (g k : EReal)) {μ : ℝ} (hμ : 0 < μ) (hG : Mass G (rowIx r) μ) :
    k0_pay55 (statOf x).1 G.1 G.2 (k0_pay11 (statOf x).1 x) (ix2 r k) = ((Real.exp (g k) / μ : ℝ) : EReal) := by
  obtain ⟨R, S, hR, -, -⟩ := mass_stat x r g h
  obtain ⟨M, T, hM, hT, e⟩ := hG
  have hT0 : T ≠ 0 := by rintro rfl; rw [zero_mul] at e; exact hμ.ne e
  rw [result_at, hR, hM, hT, h k, exp_below, exp_below, Ideal.div_coe hT0, ← EReal.coe_mul, ← EReal.coe_mul]
  refine congrArg _ ?_
  rw [← e, ← mul_assoc, ← Real.exp_add, show g k - R + (R - M) = g k - M by ring, Real.exp_sub]
  field_simp

/-! ## All the devices -/

/-- The devices whose statistics have come together on device `c`. -/
def heard (c : Dev nD) : List (Dev nD) :=
  [c, peer 4 c, peer 5 c, peer 6 c].flatMap fun b => [b, peer 1 b, peer 2 b, peer 3 b].flatMap fun a => [a, peer 0 a]
theorem heard_all : ∀ c : Dev nD, (heard c).Nodup ∧ (heard c).toFinset = Finset.univ := by decide +kernel
theorem heard_sum (μ : Dev nD → ℝ) (c : Dev nD) : ((heard c).map μ).sum = ∑ d, μ d := by
  rw [← (heard_all c).2, List.sum_toFinset μ (heard_all c).1]

variable (m : (ℓ : Loc nD τ sig) → Buf (Elt Ideal) ℓ) (ρ : Dev nD → PrngReg)

/-- After the three phases the pair of a row stands for the sum of all the devices' exponentials. -/
theorem mass_all (h : Fin 2) (r : Fin 1024) (g : Dev nD → Fin 1024 → ℝ) (hx : ∀ d k, xh m ρ h d (ix2 r k) = (g d k : EReal)) (c : Dev nD) :
    Mass (St3 m ρ h c) (rowIx r) (∑ d, ∑ k, Real.exp (g d k)) := by
  have m0 (d : Dev nD) : Mass (St0 m ρ h d) (rowIx r) (∑ k, Real.exp (g d k)) := mass_stat _ r (g d) (hx d)
  have m1 (d : Dev nD) := mass_two (m0 d) (m0 (peer 0 d))
  have m2 (d : Dev nD) := mass_four (m1 d) (m1 (peer 1 d)) (m1 (peer 2 d)) (m1 (peer 3 d))
  have m3 := mass_four (m2 c) (m2 (peer 4 c)) (m2 (peer 5 c)) (m2 (peer 6 c))
  rw [← heard_sum (fun d => ∑ k, Real.exp (g d k)) c]
  refine (congrArg (Mass (St3 m ρ h c) (rowIx r)) ?_).mp m3
  simp only [heard, List.flatMap_cons, List.flatMap_nil, List.append_nil, List.cons_append, List.nil_append, List.map_cons, List.map_nil,
    List.sum_cons, List.sum_nil, add_zero, add_assoc]

/-- A half's result. -/
theorem res_at (h : Fin 2) (r : Fin 1024) (g : Dev nD → Fin 1024 → ℝ) (hx : ∀ d k, xh m ρ h d (ix2 r k) = (g d k : EReal)) (c : Dev nD) (k : Fin 1024) :
    resOf m ρ h c (ix2 r k) = ((Real.exp (g c k) / ∑ d, ∑ k, Real.exp (g d k) : ℝ) : EReal) :=
  result_mass (St3 m ρ h c) (xh m ρ h c) r k (g c) (hx c)
    (Finset.sum_pos (fun d _ => Finset.sum_pos (fun k _ => Real.exp_pos _) ⟨0, Finset.mem_univ _⟩) ⟨c, Finset.mem_univ _⟩) (mass_all m ρ h r g hx c)

end Cert.KernelProof

end
-- ==== Proof.Steps.lean ====
/-
# The steps of the body

One lemma per kind of step, for any half and any partner: a unit to a partner's barrier, the wait on the own barrier, a
copy to a partner, the two waits for a copy, and the loads and stores of the scratch buffer's tables.
-/
module

public import proofs.«01_k».proof.Proof.Schedule

@[expose] public section

set_option maxRecDepth 20000

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg)
variable (K : Dev nD × Fin 29 → ℕ)

/-- A program of device `c`'s core run to the end, `Q` holding of its result. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Every cell's invariant, under the names `K`, and that every cell has reached round 0. -/
def records : sProp 𝕄 :=
  iprop((bigSep Finset.univ fun ck : Dev nD × Fin 29 => cellInv ER (rd m ρ) (K ck) (kcell ck))
    ∗ bigSep Finset.univ fun ck : Dev nD × Fin 29 => reached ER (kcell ck) 0)

instance records_persistent : BI.Persistent (records m ρ K) := by unfold records; infer_instance

/-- The order of the cells. -/
def levs : sProp 𝕄 := levAts L lv

instance levs_persistent : BI.Persistent (levs (F := F)) := by unfold levs; infer_instance

/-- What every step may use: that, and the order of the cells. -/
def ctx : sProp 𝕄 := iprop(records m ρ K ∗ levs)

instance ctx_persistent : BI.Persistent (ctx m ρ K) := by unfold ctx; infer_instance

theorem ctx_inv (ck : Dev nD × Fin 29) : ctx m ρ K ⊢ cellInv ER (rd m ρ) (K ck) (kcell ck) := by
  unfold ctx records
  exact sep_elim_left.trans (sep_elim_left.trans (bigSep_elim (Finset.mem_univ ck)))
theorem ctx_reached (ck : Dev nD × Fin 29) : ctx m ρ K ⊢ reached ER (kcell ck) 0 := by
  unfold ctx records
  exact sep_elim_left.trans (sep_elim_right.trans (bigSep_elim (Finset.mem_univ ck)))
theorem ctx_lev : ctx m ρ K ⊢ levs := by
  unfold ctx; exact sep_elim_right

theorem ctx_mayWait (c : Dev nD) (sm : SemLoc sig) (l : List Pay) (hl : ∀ x ∈ l, rankOf sm < x.rank) :
    ctx m ρ K ⊢ MayWait (c : Thread nD τ) sm () (owed c l) :=
  (ctx_lev m ρ K).trans (mayWait c sm l hl)

/-- The name of a cell. -/
abbrev kBar (c : Dev nD) : ℕ := K (c, 0)
abbrev kSend (c : Dev nD) (h : Fin 2) (i : Fin 7) : ℕ := K (c, sendIx h i)
abbrev kRecv (c : Dev nD) (h : Fin 2) (i : Fin 7) : ℕ := K (c, recvIx h i)

theorem kcell_send (c : Dev nD) (h : Fin 2) (i : Fin 7) : kcell (c, sendIx h i) = sendCell c h i := by unfold kcell; rw [csem_send]
theorem kcell_recv (c : Dev nD) (h : Fin 2) (i : Fin 7) : kcell (c, recvIx h i) = recvCell c h i := by unfold kcell; rw [csem_recv]

theorem inv_bar (c : Dev nD) : ctx m ρ K ⊢ cellInv ER (rd m ρ) (kBar K c) (barCell c) := ctx_inv m ρ K (c, 0)
theorem inv_send (c : Dev nD) (h : Fin 2) (i : Fin 7) : ctx m ρ K ⊢ cellInv ER (rd m ρ) (kSend K c h i) (sendCell c h i) := by
  have := ctx_inv m ρ K (c, sendIx h i); rwa [kcell_send] at this
theorem inv_recv (c : Dev nD) (h : Fin 2) (i : Fin 7) : ctx m ρ K ⊢ cellInv ER (rd m ρ) (kRecv K c h i) (recvCell c h i) := by
  have := ctx_inv m ρ K (c, recvIx h i); rwa [kcell_recv] at this
theorem reached_bar (c : Dev nD) : ctx m ρ K ⊢ reached ER (barCell c) 0 := ctx_reached m ρ K (c, 0)
theorem reached_send (c : Dev nD) (h : Fin 2) (i : Fin 7) : ctx m ρ K ⊢ reached ER (sendCell c h i) 0 := by
  have := ctx_reached m ρ K (c, sendIx h i); rwa [kcell_send] at this
theorem reached_recv (c : Dev nD) (h : Fin 2) (i : Fin 7) : ctx m ρ K ⊢ reached ER (recvCell c h i) 0 := by
  have := ctx_reached m ρ K (c, recvIx h i); rwa [kcell_recv] at this

/-! ## What a device holds -/

/-- The payments `l` still owed. -/
def OW (c : Dev nD) (l : List Pay) : sProp 𝕄 := iprop(∃ W, owes (c : Thread nD τ) (owed c l) W)
/-- The right to give partner `i` its unit. -/
def BT (c : Dev nD) (i : Fin 7) : sProp 𝕄 := dutyTok ER (barCell (peer i c)) 0 (inv i)
/-- The own barrier, not yet waited for. -/
def BW (c : Dev nD) : sProp 𝕄 := iprop(cred (tallyAt (barCell c) () 7) ∗ atPos ER (barCell c) 0 ∅ 0)
/-- Copy `i` of half `h`, not yet started: both duties, and the position on the send semaphore. -/
def TX (c : Dev nD) (h : Fin 2) (i : Fin 7) : sProp 𝕄 :=
  iprop(dutyTok ER (sendCell c h i) 0 0 ∗ dutyTok ER (recvCell (peer i c) h i) 0 0 ∗ atPos ER (sendCell c h i) 0 ∅ 0)
/-- The partner's slot it will fill. -/
def DS (c : Dev nD) (h : Fin 2) (i : Fin 7) : sProp 𝕄 := iprop(∃ f : AccBuf F, pt (peer i c) h (dslot i) fullShare f)
/-- The copy under way. -/
def FL (c : Dev nD) (h : Fin 2) (i : Fin 7) : sProp 𝕄 :=
  iprop(cred (tallyAt (sendCell c h i) () N) ∗ atPos ER (sendCell c h i) 0 ∅ 0)
/-- The copy expected from the other side. -/
def RX (c : Dev nD) (h : Fin 2) (i : Fin 7) : sProp 𝕄 :=
  iprop(cred (tallyAt (recvCell c h i) () N) ∗ atPos ER (recvCell c h i) 0 ∅ 0)

variable (c : Dev nD) {α : Type}

theorem close_send (h : Fin 2) (i : Fin 7) :
    iprop(ctx m ρ K ∗ atPos ER (sendCell c h i) (0 + 1) ∅ 0) ⊢ |={Set.univ}=> semVal (sendCell c h i) 0 := by
  iintro ⟨#Hc, Hat⟩
  iapply (Rounds.cell_close ER (rd m ρ) (Set.mem_univ (kSend K c h i)) (fun h => h) (R := 0 + 1) (duties_later m ρ (sendCell c h i)))
  isplitr; · iapply (inv_send m ρ K c h i); iexact Hc
  iexact Hat
theorem close_recv (h : Fin 2) (i : Fin 7) :
    iprop(ctx m ρ K ∗ atPos ER (recvCell c h i) (0 + 1) ∅ 0) ⊢ |={Set.univ}=> semVal (recvCell c h i) 0 := by
  iintro ⟨#Hc, Hat⟩
  iapply (Rounds.cell_close ER (rd m ρ) (Set.mem_univ (kRecv K c h i)) (fun h => h) (R := 0 + 1) (duties_later m ρ (recvCell c h i)))
  isplitr; · iapply (inv_recv m ρ K c h i); iexact Hc
  iexact Hat
theorem close_bar :
    iprop(ctx m ρ K ∗ atPos ER (barCell c) (0 + 1) ∅ 0) ⊢ |={Set.univ}=> semVal (barCell c) 0 := by
  iintro ⟨#Hc, Hat⟩
  iapply (Rounds.cell_close ER (rd m ρ) (Set.mem_univ (kBar K c)) (fun h => h) (R := 0 + 1) (duties_later m ρ (barCell c)))
  isplitr; · iapply (inv_bar m ρ K c); iexact Hc
  iexact Hat

/-! ## Signals, waits and copies -/

/-- A unit to partner `i`, with the two slots its copies will fill. -/
theorem step_signal (i : Fin 7) (l : List Pay) {n : Dev nD} (hn : n = peer i c) {v : ℕ} (hv : 1 = v)
    {k : PUnit → Prog (TpuEff nD τ sig (Elt F) Λ₀ .tc) α} {Q : α → sProp 𝕄} (f : AccBuf F) :
    ctx m ρ K ⊢ iprop(OW c (.unit i :: l) -∗ BT c i -∗ pt c 0 (dslot (inv i)) fullShare f -∗ pt c 1 (dslot (inv i)) fullShare f
      -∗ (OW c l -∗ wpc c (k ⟨⟩) Q) -∗ wpc c (.op (.semSignal (Dev.tc n : Thread nD τ) barS v) k) Q) := by
  subst hn
  unfold OW BT
  iintro #Hc ⟨%W, HO⟩ Ht H0 H1 Hk
  iapply (Rounds.wp_signal 𝒱₀ ER (rd m ρ) (c : Thread nD τ) none (dst := (peer i c : Thread nD τ)) (κ := kBar K (peer i c))
      (d := inv i) (by rw [duties_bar]; exact Finset.mem_univ _) ((amount_bar m ρ (peer i c) (inv i)).trans hv) ()
      (O₀ := owed c (.unit i :: l)) (owed c l) (by rw [← hv]; rfl)) $$ [HO Ht H0 H1]
  · isplitr; · iapply (inv_bar m ρ K (peer i c)); iexact Hc
    isplitl [HO]; · iexact HO
    isplitl [Ht]; · iexact Ht
    isplitl [H0 H1]
    · rw [payload_bar]; unfold barPay; rw [peer_inv]
      iexists f
      isplitl [H0]; · iexact H0
      iexact H1
    iapply (reached_bar m ρ K (peer i c)); iexact Hc
  iintro HO
  iapply Hk
  iexists W; iexact HO

/-- The wait for the seven units: each partner's two slots with it. -/
theorem step_barrier (l : List Pay) (hl : ∀ x ∈ l, 1 < x.rank) {v : ℕ} (hv : 7 = v)
    {k : PUnit → Prog (TpuEff nD τ sig (Elt F) Λ₀ .tc) α} {Q : α → sProp 𝕄} :
    ctx m ρ K ⊢ iprop(OW c l -∗ BW c
      -∗ (OW c l -∗ semVal (barCell c) 0 -∗ (bigSep Finset.univ fun d : Fin 7 => (barPay c d : sProp 𝕄)) -∗ wpc c (k ⟨⟩) Q)
      -∗ wpc c (.op (.semWait barS v) k) Q) := by
  unfold OW BW
  iintro #Hc ⟨%W, HO⟩ ⟨Hcr, Hat⟩ Hk
  iapply (Rounds.wp_wait_rest_token 𝒱₀ ER (rd m ρ) (c : Thread nD τ) none (κ := kBar K c)
      (wpE_semWait_eq 𝒱₀ (c : Thread nD τ) none Set.univ) (Set.mem_univ _) () (O := owed c l) (W := W) (R := 0) (m := 0) (T := ∅)
      (by rw [expect_bar, ← hv])) $$ [HO Hcr Hat]
  · isplitr; · iapply (inv_bar m ρ K c); iexact Hc
    isplitl [Hcr]; · rw [← hv]; iexact Hcr
    isplitl [HO]; · iexact HO
    isplitr
    · iapply (ctx_mayWait m ρ K c (.reg barS) l hl); iexact Hc
    iexact Hat
  iintro ⟨HO, Hat, -, Hpay⟩
  ihave Hp := (Entails.of_eq (rest_bar m ρ c)) $$ Hpay
  imod (close_bar m ρ K c) $$ [Hat] with Hz
  · isplitr; · iexact Hc
    iexact Hat
  iapply Hk $$ [HO] Hz Hp
  iexists _; iexact HO

/-- The wait for what copy `i` of half `h` read: the share of slot 0 comes back. -/
theorem step_sent (h : Fin 2) (i : Fin 7) (l : List Pay) (A : Stats F) (hA : sent m ρ h i c = A) (t : PosShare TreeShare) (ht : shr i = t)
    {q : DmaSem sig} (hq : q = sendQ h i)
    (s : Fin 8) {d : Memref sig .tc .vmem S2x8x128 .f32} (hd : d = slotM h s) {b : Memref sig .tc .vmem S2x8x128 .f32} {p₁} {p₂}
    {k : PUnit → Prog (TpuEff nD τ sig (Elt F) Λ₀ .tc) α} {Q : α → sProp 𝕄} :
    ctx m ρ K ⊢ iprop(OW c l -∗ FL c h i
      -∗ (OW c l -∗ semVal (sendCell c h i) 0 -∗ pt c h 0 t (fill A) -∗ wpc c (k ⟨⟩) Q)
      -∗ wpc c (.op (.waitDma2 q b d p₁ p₂) k) Q) := by
  subst hq; subst hd; subst hA; subst ht
  unfold OW FL
  iintro #Hc ⟨%W, HO⟩ ⟨Hcr, Hat⟩ Hk
  iapply (Rounds.wp_wait_rest_token 𝒱₀ ER (rd m ρ) (c : Thread nD τ) none (κ := kSend K c h i)
      (wpE_waitDma2_eq 𝒱₀ (c : Thread nD τ) none Set.univ) (Set.mem_univ _) () (O := owed c l) (W := W) (R := 0) (m := 0) (T := ∅)
      (by rw [Nat.zero_add, expect_send, slot_credit])) $$ [HO Hcr Hat]
  · isplitr; · iapply (inv_send m ρ K c h i); iexact Hc
    isplitl [Hcr]; · rw [slot_credit]; iexact Hcr
    isplitl [HO]; · iexact HO
    isplitr
    · iapply (ctx_mayWait m ρ K c (.dma (sendQ h i)) l (fun x _ => by rw [rank_send]; exact rank_pos x)); iexact Hc
    iexact Hat
  iintro ⟨HO, Hat, -, Hpay⟩
  ihave Hp := (Entails.of_eq (rest_send m ρ c h i)) $$ Hpay
  imod (close_send m ρ K c h i) $$ [Hat] with Hz
  · isplitr; · iexact Hc
    iexact Hat
  unfold sendPay
  iapply Hk $$ [HO] Hz Hp
  iexists _; iexact HO

/-- The wait for the copy that fills slot `dslot i` of half `h`. -/
theorem step_recvd (h : Fin 2) (i : Fin 7) (l : List Pay) (hl : ∀ x ∈ l, (Pay.copy h i).rank < x.rank)
    (A : Stats F) (hA : sent m ρ h i (peer (inv i) c) = A) (t : Fin 8) (ht : dslot i = t) {q : DmaSem sig} (hq : q = recvQ h i)
    (s : Fin 8) {d : Memref sig .tc .vmem S2x8x128 .f32} (hd : d = slotM h s) {b : Memref sig .tc .vmem S2x8x128 .f32} {p₁} {p₂}
    {k : PUnit → Prog (TpuEff nD τ sig (Elt F) Λ₀ .tc) α} {Q : α → sProp 𝕄} :
    ctx m ρ K ⊢ iprop(OW c l -∗ RX c h i
      -∗ (OW c l -∗ semVal (recvCell c h i) 0 -∗ pt c h t fullShare (fill A) -∗ wpc c (k ⟨⟩) Q)
      -∗ wpc c (.op (.waitDma2 q b d p₁ p₂) k) Q) := by
  subst hq; subst hd; subst hA; subst ht
  unfold OW RX
  iintro #Hc ⟨%W, HO⟩ ⟨Hcr, Hat⟩ Hk
  iapply (Rounds.wp_wait_rest_token 𝒱₀ ER (rd m ρ) (c : Thread nD τ) none (κ := kRecv K c h i)
      (wpE_waitDma2_eq 𝒱₀ (c : Thread nD τ) none Set.univ) (Set.mem_univ _) () (O := owed c l) (W := W) (R := 0) (m := 0) (T := ∅)
      (by rw [Nat.zero_add, expect_recv, slot_credit])) $$ [HO Hcr Hat]
  · isplitr; · iapply (inv_recv m ρ K c h i); iexact Hc
    isplitl [Hcr]; · rw [slot_credit]; iexact Hcr
    isplitl [HO]; · iexact HO
    isplitr
    · iapply (ctx_mayWait m ρ K c (.dma (recvQ h i)) l (fun x hx => by rw [rank_recv]; exact hl x hx)); iexact Hc
    iexact Hat
  iintro ⟨HO, Hat, -, Hpay⟩
  ihave Hp := (Entails.of_eq (rest_recv m ρ c h i)) $$ Hpay
  imod (close_recv m ρ K c h i) $$ [Hat] with Hz
  · isplitr; · iexact Hc
    iexact Hat
  unfold recvPay
  iapply Hk $$ [HO] Hz Hp
  iexists _; iexact HO

/-- The copy to partner `i` of half `h`: it takes the share of slot 0 it reads with, and the partner's slot. -/
theorem step_copy (h : Fin 2) (i : Fin 7) (l : List Pay) {A : Stats F} (hA : A = sent m ρ h i c) {t : PosShare TreeShare} (ht : t = shr i)
    {n : Dev nD} (hn : n = peer i c)
    {a : Memref sig .tc .vmem S2x8x128 .f32} (ha : a = slotM h 0) {b : Memref sig .tc .vmem S2x8x128 .f32} (hb : b = slotM h (dslot i))
    {qs qr : DmaSem sig} (hs : qs = sendQ h i) (hr : qr = recvQ h i)
    {hsc} {hsrc : a.view.WordExact} {hdst : b.view.WordExact}
    {hsem : DmaTarget.Typed .vmem (.dma qr) (.remote (Dev.tc n : Thread nD τ) b (.dma qs) hsc)}
    {k : PUnit → Prog (TpuEff nD τ sig (Elt F) Λ₀ .tc) α} {Q : α → sProp 𝕄} :
    ctx m ρ K ⊢ iprop(OW c (.copy h i :: l) -∗ TX c h i -∗ DS c h i -∗ pt c h 0 t (fill A)
      -∗ (OW c l -∗ FL c h i -∗ wpc c (k ⟨⟩) Q)
      -∗ wpc c (.op (.enqueueDma a (.remote (Dev.tc n : Thread nD τ) b (.dma qs) hsc) (.dma qr) hsrc hdst hsem) k) Q) := by
  subst hA; subst ht; subst hn; subst ha; subst hb; subst hs; subst hr
  unfold OW TX DS FL pt
  iintro #Hc ⟨%W, HO⟩ ⟨Hts, Htr, Hat⟩ ⟨%fd, Hd⟩ Hs Hk
  iapply (Rounds.wp_send_pointsTo 𝒱₀ ER (rd m ρ) (c : Thread nD τ) none (κ₁ := kSend K c h i) (κ₂ := kRecv K (peer i c) h i)
    (r₁ := 0) (r₂ := 0) (d₁ := 0) (d₂ := 0) (fd := fd) (fs := fill (sent m ρ h i c)) (q := shr i)
    (by rw [duties_send]; exact Finset.mem_singleton_self _) (by rw [duties_recv]; exact Finset.mem_singleton_self _)
    () () N ((View.amount_dma _ _).trans (slot_credit h (dslot i))) (amount_send m ρ c h i 0) (amount_recv m ρ (peer i c) h i 0) (O₀ := owed c (.copy h i :: l)) (owed c l) rfl (W := W)
    (by rw [payload_send]; unfold sendPay pt; rw [slotM_set])
    (by rw [payload_recv]; unfold recvPay pt; rw [peer_inv, slotM_set]
        exact Entails.of_eq (pointsTo_congr (land_fill h h 0 (dslot i) (sent m ρ h i c) fd)))) $$ [HO Hts Htr Hd Hs]
  · rw [slotM_set, slotM_set]
    isplitr; · iapply (inv_send m ρ K c h i); iexact Hc
    isplitr; · iapply (inv_recv m ρ K (peer i c) h i); iexact Hc
    isplitl [Hs]; · iexact Hs
    isplitl [Hd]; · iexact Hd
    isplitl [HO]; · iexact HO
    isplitl [Hts]; · iexact Hts
    isplitr; · iapply (reached_send m ρ K c h i); iexact Hc
    isplitl [Htr]; · iexact Htr
    iapply (reached_recv m ρ K (peer i c) h i); iexact Hc
  iintro ⟨Hcr, HO⟩
  iapply Hk $$ [HO] [Hcr Hat]
  · iexists W; iexact HO
  isplitl [Hcr]; · iexact Hcr
  iexact Hat

/-! ## Loads, stores and ends -/

/-- The end of a program. -/
theorem step_ret (a : α) {Q : α → sProp 𝕄} : (Q a : sProp 𝕄) ⊢ wpc c (.ret a) Q := by
  unfold wpc; rw [wp_ret]; iintro H; imodintro; iexact H

/-- The staged block of the argument, whole. -/
def xB : sProp 𝕄 := ((c : Thread nD τ).loc cc0_stg0_0) ↦[Finset.univ]{fullShare} (xstg m ρ c)

/-- A load of a half of the argument. -/
theorem step_xload (h : Fin 2) {r : LoadRect S2048x1024} (hr : r = (rowR h).toLoadRect) {hl : xM.view.LoadsAt r}
    {k : (r.shape.Idx → Elt F .f32) → Prog (TpuEff nD τ sig (Elt F) Λ₀ .tc) α} {Q : α → sProp 𝕄} :
    (xB m ρ c : sProp 𝕄) ⊢ iprop((xB m ρ c -∗ wpc c (k (xM.view.readAt (Elt F) r (xstg m ρ c))) Q) -∗ wpc c (.op (.load xM r hl) k) Q) :=
  wp_load (defs := defs₀ (F := F)) 𝒱₀ (c : Thread nD τ) none Set.univ (m := xM) (r := r) (hl := hl) (k := k) (Q := Q)
    (S := Finset.univ) (q := fullShare) (f := xstg m ρ c) (Finset.subset_univ _)

/-- A load of table `k'` of a slot. -/
theorem step_load (h : Fin 2) (s : Fin 8) (k' : Fin 2) {q : PosShare TreeShare} {f : AccBuf F}
    {hl : accM.view.LoadsAt (tableR h s k').toLoadRect}
    {k : ((tableR h s k').toLoadRect.shape.Idx → Elt F .f32) → Prog (TpuEff nD τ sig (Elt F) Λ₀ .tc) α} {Q : α → sProp 𝕄} :
    (pt c h s q f : sProp 𝕄) ⊢ iprop((pt c h s q f -∗ wpc c (k ((accM.access (tableR h s k')).read (Elt F) f)) Q)
      -∗ wpc c (.op (.load accM (tableR h s k').toLoadRect hl) k) Q) :=
  wp_load_rect (defs := defs₀ (F := F)) 𝒱₀ (c : Thread nD τ) none Set.univ (m := accM) (r := tableR h s k') (hl := hl) (k := k) (Q := Q)
    (S := slotSet h s) (q := q) (f := f) (table_subset h s k')

/-- A store to table `k'` of a slot. -/
theorem step_store (h : Fin 2) (s : Fin 8) (k' : Fin 2) {f : AccBuf F} {w : (tableR h s k').shape.Idx → Elt F .f32}
    {hx : (accM.access (tableR h s k')).Stores Finset.univ} {hm}
    {k : PUnit → Prog (TpuEff nD τ sig (Elt F) Λ₀ .tc) α} {Q : α → sProp 𝕄} :
    (pt c h s fullShare f : sProp 𝕄) ⊢ iprop((pt c h s fullShare ((accM.access (tableR h s k')).write (Elt F) f w Finset.univ) -∗ wpc c (k ⟨⟩) Q)
      -∗ wpc c (.op (.store accM (tableR h s k') w Finset.univ hx hm) k) Q) :=
  wp_store (defs := defs₀ (F := F)) 𝒱₀ (c : Thread nD τ) none Set.univ (m := accM) (r := tableR h s k') (hx := hx) (hm := hm) (k := k) (Q := Q)
    (S := slotSet h s) (f := f) (table_subset h s k')

/-- Loads of the maxima and of the sums of a filled slot. -/
theorem step_max (h : Fin 2) (s : Fin 8) {q : PosShare TreeShare} {A : Stats F}
    {hl : accM.view.LoadsAt (tableR h s 0).toLoadRect}
    {k : ((tableR h s 0).toLoadRect.shape.Idx → Elt F .f32) → Prog (TpuEff nD τ sig (Elt F) Λ₀ .tc) α} {Q : α → sProp 𝕄} :
    (pt c h s q (fill A) : sProp 𝕄) ⊢ iprop((pt c h s q (fill A) -∗ wpc c (k (lift5 A.1)) Q)
      -∗ wpc c (.op (.load accM (tableR h s 0).toLoadRect hl) k) Q) := by
  have := step_load c h s 0 (q := q) (f := fill A) (hl := hl) (k := k) (Q := Q)
  rwa [read_fill_zero] at this
theorem step_sum (h : Fin 2) (s : Fin 8) {q : PosShare TreeShare} {A : Stats F}
    {hl : accM.view.LoadsAt (tableR h s 1).toLoadRect}
    {k : ((tableR h s 1).toLoadRect.shape.Idx → Elt F .f32) → Prog (TpuEff nD τ sig (Elt F) Λ₀ .tc) α} {Q : α → sProp 𝕄} :
    (pt c h s q (fill A) : sProp 𝕄) ⊢ iprop((pt c h s q (fill A) -∗ wpc c (k (lift5 A.2)) Q)
      -∗ wpc c (.op (.load accM (tableR h s 1).toLoadRect hl) k) Q) := by
  have := step_load c h s 1 (q := q) (f := fill A) (hl := hl) (k := k) (Q := Q)
  rwa [read_fill_one] at this

/-- A new table of maxima in a slot, loaded once before and the value dropped. -/
theorem step_putMax (h : Fin 2) (s : Fin 8) (M : FVec F S8x128 .f32) {f : AccBuf F}
    {hl : accM.view.LoadsAt (tableR h s 0).toLoadRect} {w : (tableR h s 0).shape.Idx → Elt F .f32} (hw : w = lift5 M)
    {hx : (accM.access (tableR h s 0)).Stores Finset.univ} {hm}
    {k : PUnit → Prog (TpuEff nD τ sig (Elt F) Λ₀ .tc) α} {Q : α → sProp 𝕄} :
    (pt c h s fullShare f : sProp 𝕄) ⊢ iprop((pt c h s fullShare (half M f) -∗ wpc c (k ⟨⟩) Q)
      -∗ wpc c (.op (.load accM (tableR h s 0).toLoadRect hl) fun _ => .op (.store accM (tableR h s 0) w Finset.univ hx hm) k) Q) := by
  subst hw
  iintro H Hk
  iapply (step_load c h s 0) $$ H
  iintro H
  iapply (step_store c h s 0 (hx := hx) (hm := hm)) $$ H
  iintro H
  unfold pt
  iapply Hk
  iapply (Entails.of_eq (pointsTo_congr (write_table_zero h s M f)))
  iexact H
/-- A new table of sums under the maxima. -/
theorem step_putSum (h : Fin 2) (s : Fin 8) (A : Stats F) {f : AccBuf F}
    {hl : accM.view.LoadsAt (tableR h s 1).toLoadRect} {w : (tableR h s 1).shape.Idx → Elt F .f32} (hw : w = lift5 A.2)
    {hx : (accM.access (tableR h s 1)).Stores Finset.univ} {hm}
    {k : PUnit → Prog (TpuEff nD τ sig (Elt F) Λ₀ .tc) α} {Q : α → sProp 𝕄} :
    (pt c h s fullShare (half A.1 f) : sProp 𝕄) ⊢ iprop((pt c h s fullShare (fill A) -∗ wpc c (k ⟨⟩) Q)
      -∗ wpc c (.op (.load accM (tableR h s 1).toLoadRect hl) fun _ => .op (.store accM (tableR h s 1) w Finset.univ hx hm) k) Q) := by
  subst hw
  iintro H Hk
  iapply (step_load c h s 1) $$ H
  iintro H
  iapply (step_store c h s 1 (hx := hx) (hm := hm)) $$ H
  iintro H
  unfold pt
  iapply Hk
  iapply (Entails.of_eq (pointsTo_congr (write_table_one h s A f)))
  iexact H

/-- A full slot as the three shares the later copies read it with. -/
theorem split_share (h : Fin 2) (s : Fin 8) (f : AccBuf F) :
    (pt c h s fullShare f : sProp 𝕄) ⊢ iprop(pt c h s fullShare.left f ∗ pt c h s fullShare.right.left f ∗ pt c h s fullShare.right.right f) := by
  unfold pt
  iintro H
  ihave H := (pointsTo_share (PosShare.mem_left_op_right fullShare)).mp $$ H
  icases H with ⟨H1, H2⟩
  isplitl [H1]; · iexact H1
  iapply ((pointsTo_share (PosShare.mem_left_op_right fullShare.right)).mp); iexact H2
theorem join_share (h : Fin 2) (s : Fin 8) (f : AccBuf F) :
    iprop(pt c h s fullShare.left f ∗ pt c h s fullShare.right.left f ∗ pt c h s fullShare.right.right f) ⊢ (pt c h s fullShare f : sProp 𝕄) := by
  unfold pt
  iintro ⟨H1, H2⟩
  iapply ((pointsTo_share (PosShare.mem_left_op_right fullShare)).mpr)
  isplitl [H1]; · iexact H1
  iapply ((pointsTo_share (PosShare.mem_left_op_right fullShare.right)).mpr); iexact H2

end Cert.KernelProof

end
-- ==== Proof.Out.lean ====
/-
# The result's two halves

The staged result is written and read half by half: the lemmas here keep track of what the two halves hold.
-/
module

public import proofs.«01_k».proof.Proof.Steps

@[expose] public section

set_option maxRecDepth 20000

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem row_inb (h : Fin 2) : ∀ a, (![1024 * h.val, 0] : Fin 2 → Nat) a + S1024x1024.size a ≤ S2048x1024.size a := by
  revert h; decide

/-- A half of the rows, as a rectangle. -/
abbrev rowU (h : Fin 2) : Rect S2048x1024 := Rect.unit (s := S2048x1024) ![1024 * h.val, 0] S1024x1024.size (row_inb h)

/-- Contents of the staged result, and what half `h` of the rows holds of them. -/
abbrev OutBuf (F : FTy → Type) : Type := (cc0_stg1_0 : Ref sig .tc).ty.Contents (Elt F)
def rowPart (h : Fin 2) (f : OutBuf F) : FVec F S1024x1024 .bf16 := (oM.access (rowU h)).read (Elt F) f

theorem rowPart_apply (h : Fin 2) (f : OutBuf F) (x : S1024x1024.Idx) : rowPart h f x = f ((rowU h).emb x) := rfl

theorem access_row_set (h : Fin 2) : (oM.access (rowU h)).set = (rowU h).set := View.set_slice_whole cc0_stg1_0 (rowU h)

/-- A half holds what is stored there. -/
theorem rowPart_same (h : Fin 2) (f : OutBuf F) (w : FVec F S1024x1024 .bf16) :
    rowPart h ((oM.access (rowU h)).write (Elt F) f w Finset.univ) = w := by
  funext x
  rw [rowPart_apply]
  exact (oM.access (rowU h)).write_emb_of_mem f w (Finset.mem_univ x)

/-- A store to one half leaves the other. -/
theorem rowPart_other {h h' : Fin 2} (hne : h ≠ h') (f : OutBuf F) (w : FVec F S1024x1024 .bf16) :
    rowPart h' ((oM.access (rowU h)).write (Elt F) f w Finset.univ) = rowPart h' f := by
  funext x
  rw [rowPart_apply, rowPart_apply]
  refine (oM.access (rowU h)).write_of_not_mem f w Finset.univ ?_
  rw [View.setOn_univ, access_row_set, Rect.mem_set_unit]
  intro H
  have h0 := H 0
  have hx : (x 0).val < 1024 := (x 0).isLt
  simp at h0
  have : h.val ≠ h'.val := fun e => hne (Fin.ext e)
  omega

/-- The halves make up the whole. -/
theorem glue_parts (f : OutBuf F) : glue (rowPart 0 f) (rowPart 1 f) = f := by
  funext i
  unfold glue
  split
  · rename_i h
    rw [rowPart_apply]
    congr 1
    funext a
    fin_cases a
    · exact Fin.ext (by simp)
    · exact Fin.ext (by simp)
  · rename_i h
    rw [rowPart_apply]
    have hi : (i 0).val < 2048 := (i 0).isLt
    congr 1
    funext a
    fin_cases a
    · exact Fin.ext (by simp; omega)
    · exact Fin.ext (by simp)

variable (c : Dev nD) {α : Type}

/-- The staged result, its halves holding `A` and `B`. -/
def outP (A B : FVec F S1024x1024 .bf16) : sProp 𝕄 :=
  iprop(∃ f : OutBuf F, ⌜rowPart 0 f = A ∧ rowPart 1 f = B⌝ ∗ ((c : Thread nD τ).loc cc0_stg1_0) ↦[Finset.univ]{fullShare} f)

theorem out_load (h : Fin 2) {f : OutBuf F} {hl : oM.view.LoadsAt (rowU h).toLoadRect}
    {k : ((rowU h).toLoadRect.shape.Idx → Elt F .bf16) → Prog (TpuEff nD τ sig (Elt F) Λ₀ .tc) α} {Q : α → sProp 𝕄} :
    (((c : Thread nD τ).loc cc0_stg1_0 ↦[Finset.univ]{fullShare} f : sProp 𝕄)) ⊢ iprop((((c : Thread nD τ).loc cc0_stg1_0 ↦[Finset.univ]{fullShare} f)
      -∗ wpc c (k (rowPart h f)) Q) -∗ wpc c (.op (.load oM (rowU h).toLoadRect hl) k) Q) :=
  wp_load_rect (defs := defs₀ (F := F)) 𝒱₀ (c : Thread nD τ) none Set.univ (m := oM) (r := rowU h) (hl := hl) (k := k) (Q := Q)
    (S := Finset.univ) (q := fullShare) (f := f) (Finset.subset_univ _)

theorem out_store (h : Fin 2) {f : OutBuf F} {w : (rowU h).shape.Idx → Elt F .bf16}
    {hx : (oM.access (rowU h)).Stores Finset.univ} {hm}
    {k : PUnit → Prog (TpuEff nD τ sig (Elt F) Λ₀ .tc) α} {Q : α → sProp 𝕄} :
    (((c : Thread nD τ).loc cc0_stg1_0 ↦[Finset.univ]{fullShare} f : sProp 𝕄)) ⊢ iprop((((c : Thread nD τ).loc cc0_stg1_0 ↦[Finset.univ]{fullShare}
        ((oM.access (rowU h)).write (Elt F) f w Finset.univ)) -∗ wpc c (k ⟨⟩) Q)
      -∗ wpc c (.op (.store oM (rowU h) w Finset.univ hx hm) k) Q) :=
  wp_store (defs := defs₀ (F := F)) 𝒱₀ (c : Thread nD τ) none Set.univ (m := oM) (r := rowU h) (hx := hx) (hm := hm) (k := k) (Q := Q)
    (S := Finset.univ) (f := f) (Finset.subset_univ _)

/-- What is at the staged result at first, whatever it is. -/
theorem outP_intro (f : OutBuf F) : ((c : Thread nD τ).loc cc0_stg1_0 ↦[Finset.univ]{fullShare} f : sProp 𝕄) ⊢ outP c (rowPart 0 f) (rowPart 1 f) := by
  unfold outP
  iintro H; iexists f
  isplitr; · ipureintro; exact ⟨rfl, rfl⟩
  iexact H
theorem outP_elim (A B : FVec F S1024x1024 .bf16) :
    (outP c A B : sProp 𝕄) ⊢ ((c : Thread nD τ).loc cc0_stg1_0) ↦[Finset.univ]{fullShare} (glue A B) := by
  unfold outP
  iintro ⟨%f, %hf, H⟩
  obtain ⟨rfl, rfl⟩ := hf
  rw [glue_parts]
  iexact H

/-- A load of the half 0, of the half 1. -/
theorem step_getLo {A B : FVec F S1024x1024 .bf16} {hl : oM.view.LoadsAt (rowU 0).toLoadRect}
    {k : ((rowU 0).toLoadRect.shape.Idx → Elt F .bf16) → Prog (TpuEff nD τ sig (Elt F) Λ₀ .tc) α} {Q : α → sProp 𝕄} :
    (outP c A B : sProp 𝕄) ⊢ iprop((outP c A B -∗ wpc c (k A) Q) -∗ wpc c (.op (.load oM (rowU 0).toLoadRect hl) k) Q) := by
  unfold outP
  iintro ⟨%f, %hf, H⟩ Hk
  obtain ⟨rfl, rfl⟩ := hf
  iapply (out_load c 0) $$ H
  iintro H
  iapply Hk
  iexists f
  isplitr; · ipureintro; exact ⟨rfl, rfl⟩
  iexact H
theorem step_getHi {A B : FVec F S1024x1024 .bf16} {hl : oM.view.LoadsAt (rowU 1).toLoadRect}
    {k : ((rowU 1).toLoadRect.shape.Idx → Elt F .bf16) → Prog (TpuEff nD τ sig (Elt F) Λ₀ .tc) α} {Q : α → sProp 𝕄} :
    (outP c A B : sProp 𝕄) ⊢ iprop((outP c A B -∗ wpc c (k B) Q) -∗ wpc c (.op (.load oM (rowU 1).toLoadRect hl) k) Q) := by
  unfold outP
  iintro ⟨%f, %hf, H⟩ Hk
  obtain ⟨rfl, rfl⟩ := hf
  iapply (out_load c 1) $$ H
  iintro H
  iapply Hk
  iexists f
  isplitr; · ipureintro; exact ⟨rfl, rfl⟩
  iexact H

/-- A store to the half 0, to the half 1. -/
theorem step_putLo {A B : FVec F S1024x1024 .bf16} {w : (rowU 0).shape.Idx → Elt F .bf16}
    {hx : (oM.access (rowU 0)).Stores Finset.univ} {hm}
    {k : PUnit → Prog (TpuEff nD τ sig (Elt F) Λ₀ .tc) α} {Q : α → sProp 𝕄} :
    (outP c A B : sProp 𝕄) ⊢ iprop((outP c w B -∗ wpc c (k ⟨⟩) Q) -∗ wpc c (.op (.store oM (rowU 0) w Finset.univ hx hm) k) Q) := by
  unfold outP
  iintro ⟨%f, %hf, H⟩ Hk
  obtain ⟨rfl, rfl⟩ := hf
  iapply (out_store c 0 (hx := hx) (hm := hm)) $$ H
  iintro H
  iapply Hk
  iexists _
  isplitr; · ipureintro; exact ⟨rowPart_same 0 f w, rowPart_other (by decide) f w⟩
  iexact H
theorem step_putHi {A B : FVec F S1024x1024 .bf16} {w : (rowU 1).shape.Idx → Elt F .bf16}
    {hx : (oM.access (rowU 1)).Stores Finset.univ} {hm}
    {k : PUnit → Prog (TpuEff nD τ sig (Elt F) Λ₀ .tc) α} {Q : α → sProp 𝕄} :
    (outP c A B : sProp 𝕄) ⊢ iprop((outP c A w -∗ wpc c (k ⟨⟩) Q) -∗ wpc c (.op (.store oM (rowU 1) w Finset.univ hx hm) k) Q) := by
  unfold outP
  iintro ⟨%f, %hf, H⟩ Hk
  obtain ⟨rfl, rfl⟩ := hf
  iapply (out_store c 1 (hx := hx) (hm := hm)) $$ H
  iintro H
  iapply Hk
  iexists _
  isplitr; · ipureintro; exact ⟨rowPart_other (by decide) f w, rowPart_same 1 f w⟩
  iexact H

/-- The same with a load before it whose value is dropped. -/
theorem step_dropLo {A B : FVec F S1024x1024 .bf16} {w : (rowU 0).shape.Idx → Elt F .bf16} {hl : oM.view.LoadsAt (rowU 0).toLoadRect}
    {hx : (oM.access (rowU 0)).Stores Finset.univ} {hm}
    {k : PUnit → Prog (TpuEff nD τ sig (Elt F) Λ₀ .tc) α} {Q : α → sProp 𝕄} :
    (outP c A B : sProp 𝕄) ⊢ iprop((outP c w B -∗ wpc c (k ⟨⟩) Q)
      -∗ wpc c (.op (.load oM (rowU 0).toLoadRect hl) fun _ => .op (.store oM (rowU 0) w Finset.univ hx hm) k) Q) := by
  iintro O Hk
  iapply (step_getLo c) $$ O; iintro O
  iapply (step_putLo c) $$ O Hk
theorem step_dropHi {A B : FVec F S1024x1024 .bf16} {w : (rowU 1).shape.Idx → Elt F .bf16} {hl : oM.view.LoadsAt (rowU 1).toLoadRect}
    {hx : (oM.access (rowU 1)).Stores Finset.univ} {hm}
    {k : PUnit → Prog (TpuEff nD τ sig (Elt F) Λ₀ .tc) α} {Q : α → sProp 𝕄} :
    (outP c A B : sProp 𝕄) ⊢ iprop((outP c A w -∗ wpc c (k ⟨⟩) Q)
      -∗ wpc c (.op (.load oM (rowU 1).toLoadRect hl) fun _ => .op (.store oM (rowU 1) w Finset.univ hx hm) k) Q) := by
  iintro O Hk
  iapply (step_getHi c) $$ O; iintro O
  iapply (step_putHi c) $$ O Hk

end Cert.KernelProof

end
-- ==== Proof.Values.lean ====
/-
# The values the kernel stores

What the kernel computes from tables it loads is, case by case, the combination of two pairs or of four pairs.
-/
module

public import proofs.«01_k».proof.Proof.Schedule

@[expose] public section

set_option maxRecDepth 20000

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Two pairs -/

variable (A B C D : Stats F)

theorem two_max_lo : k0_pay17 (k0_pay15 (lift5 A.1) (lift5 B.1)) = lift5 (comb2 A B).1 := by
  simp only [k0_pay17, k0_pay15, k0_pay12, k0_pay13, drop5_lift5, comb2]

theorem two_sum_lo : k0_pay18 (k0_pay13 (lift5 B.1)) (k0_pay14 (lift5 B.2)) (k0_pay15 (lift5 A.1) (lift5 B.1))
    (k0_pay16 (lift5 A.1) (lift5 B.1) (lift5 A.2)) = lift5 (comb2 A B).2 := by
  simp only [k0_pay18, k0_pay16, k0_pay15, k0_pay14, k0_pay12, k0_pay13, drop5_lift5, comb2]

theorem two_max_hi : k0_pay21 (lift5 A.1) (lift5 B.1) = (comb2 A B).1 := by
  simp only [k0_pay21, k0_pay19, k0_pay20, drop5_lift5, comb2]

theorem two_sum_hi : k0_pay22 (lift5 A.1) (lift5 B.1) (lift5 A.2) (lift5 B.2) = (comb2 A B).2 := by
  simp only [k0_pay22, k0_pay21, k0_pay19, k0_pay20, drop5_lift5, comb2]

/-! ## Four pairs, in the second phase -/

theorem four_max_lo : k0_pay35 (k0_pay32 (k0_pay26 (lift5 A.1)) (lift5 B.1) (lift5 C.1) (lift5 D.1)) = lift5 (comb4 A B C D).1 := by
  simp only [k0_pay35, k0_pay32, k0_pay26, k0_pay27, k0_pay28, k0_pay29, drop5_lift5, comb4]

theorem four_sum_lo : k0_pay36 (k0_pay29 (lift5 D.1)) (k0_pay30 (lift5 C.2)) (k0_pay31 (lift5 D.2))
    (k0_pay32 (k0_pay26 (lift5 A.1)) (lift5 B.1) (lift5 C.1) (lift5 D.1))
    (k0_pay33 (k0_pay26 (lift5 A.1)) (lift5 B.1) (lift5 C.1) (lift5 D.1) (lift5 A.2) (lift5 B.2))
    (k0_pay34 (k0_pay26 (lift5 A.1)) (lift5 B.1) (lift5 C.1) (lift5 D.1)) = lift5 (comb4 A B C D).2 := by
  simp only [k0_pay36, k0_pay34, k0_pay33, k0_pay32, k0_pay26, k0_pay27, k0_pay28, k0_pay29, k0_pay30, k0_pay31, drop5_lift5, comb4]

theorem four_max_hi : k0_pay45 (k0_pay42 (k0_pay37 (lift5 A.1)) (lift5 B.1) (lift5 C.1) (lift5 D.1)) = lift5 (comb4 A B C D).1 := by
  simp only [k0_pay45, k0_pay42, k0_pay37, k0_pay38, k0_pay39, k0_pay40, drop5_lift5, comb4]

theorem four_sum_hi : k0_pay46 (k0_pay41 (lift5 D.2))
    (k0_pay43 (k0_pay37 (lift5 A.1)) (lift5 B.1) (lift5 C.1) (lift5 D.1) (lift5 A.2) (lift5 B.2) (lift5 C.2))
    (k0_pay44 (k0_pay37 (lift5 A.1)) (lift5 B.1) (lift5 C.1) (lift5 D.1)) = lift5 (comb4 A B C D).2 := by
  simp only [k0_pay46, k0_pay44, k0_pay43, k0_pay42, k0_pay41, k0_pay37, k0_pay38, k0_pay39, k0_pay40, drop5_lift5, comb4]

/-! ## Four pairs, in the third phase -/

theorem last_max_lo : k0_pay51 (k0_pay47 (lift5 A.1)) (k0_pay48 (lift5 B.1)) (lift5 C.1) (lift5 D.1) = (comb4 A B C D).1 := by
  simp only [k0_pay51, k0_pay47, k0_pay48, k0_pay49, k0_pay50, drop5_lift5, comb4]

theorem last_sum_lo : k0_pay52 (k0_pay47 (lift5 A.1)) (k0_pay48 (lift5 B.1)) (lift5 C.1) (lift5 D.1) (lift5 A.2) (lift5 B.2) (lift5 C.2)
    (lift5 D.2) = (comb4 A B C D).2 := by
  simp only [k0_pay52, k0_pay51, k0_pay47, k0_pay48, k0_pay49, k0_pay50, drop5_lift5, comb4]

theorem last_max_hi : k0_pay60 (k0_pay56 (lift5 A.1)) (k0_pay57 (lift5 B.1)) (lift5 C.1) (lift5 D.1) = (comb4 A B C D).1 := by
  simp only [k0_pay60, k0_pay56, k0_pay57, k0_pay58, k0_pay59, drop5_lift5, comb4]

theorem last_sum_hi : k0_pay61 (k0_pay56 (lift5 A.1)) (k0_pay57 (lift5 B.1)) (lift5 C.1) (lift5 D.1) (lift5 A.2) (lift5 B.2) (lift5 C.2)
    (lift5 D.2) = (comb4 A B C D).2 := by
  simp only [k0_pay61, k0_pay60, k0_pay56, k0_pay57, k0_pay58, k0_pay59, drop5_lift5, comb4]

end Cert.KernelProof

end
-- ==== Proof.PartsA.lean ====
/-
# The body's parts, up to the second phase

One theorem per part of the printed body: from what the part takes to what it leaves, with the values it returns.
-/
module

public import proofs.«01_k».proof.Proof.Out
public import proofs.«01_k».proof.Proof.Values

@[expose] public section

set_option maxRecDepth 20000

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 29 → ℕ) (c : Dev nD)

/-! ## The units of the barrier -/

/-- What a unit to partner `i` takes: the right to give it, and the two slots the partner's copies will fill. -/
def SG (i : Fin 7) : sProp 𝕄 :=
  iprop(BT c i ∗ ∃ f : AccBuf F, pt c 0 (dslot (inv i)) fullShare f ∗ pt c 1 (dslot (inv i)) fullShare f)

theorem step_unit {α : Type} (i : Fin 7) (l : List Pay) {n : Dev nD} (hn : n = peer i c) {v : ℕ} (hv : 1 = v)
    {k : PUnit → Prog (TpuEff nD τ sig (Elt F) Λ₀ .tc) α} {Q : α → sProp 𝕄} :
    ctx m ρ K ⊢ iprop(OW c (.unit i :: l) -∗ SG c i -∗ (OW c l -∗ wpc c (k ⟨⟩) Q)
      -∗ wpc c (.op (.semSignal (Dev.tc n : Thread nD τ) barS v) k) Q) := by
  unfold SG
  iintro #Hc HO ⟨Ht, ⟨%f, H0, H1⟩⟩ Hk
  iapply (step_signal m ρ K c i l hn hv f) $$ Hc HO Ht H0 H1 Hk

/-- What the barrier brings, partner by partner. -/
def slotsOf (i : Fin 7) : sProp 𝕄 := iprop(DS c 0 i ∗ DS c 1 i)

theorem slots_of_bar : (bigSep Finset.univ fun d : Fin 7 => (barPay c d : sProp 𝕄))
    ⊢ iprop(slotsOf c 0 ∗ slotsOf c 1 ∗ slotsOf c 2 ∗ slotsOf c 3 ∗ slotsOf c 4 ∗ slotsOf c 5 ∗ slotsOf c 6) := by
  have h : ∀ d : Fin 7, (barPay c d : sProp 𝕄) ⊢ slotsOf c d := fun d => by
    unfold barPay slotsOf DS
    iintro ⟨%f, H0, H1⟩
    isplitl [H0]
    · iexists f; iexact H0
    · iexists f; iexact H1
  have e : (bigSep Finset.univ fun d : Fin 7 => (slotsOf c d : sProp 𝕄))
      = iprop(slotsOf c 0 ∗ slotsOf c 1 ∗ slotsOf c 2 ∗ slotsOf c 3 ∗ slotsOf c 4 ∗ slotsOf c 5 ∗ slotsOf c 6) :=
    bigSep_univ_eq_bigSepL [0, 1, 2, 3, 4, 5, 6] (by decide) (by decide) _
  rw [← e]
  exact bigSep_mono fun d _ => h d

/-! ## The parts -/

/-- The two loads of the block's halves. -/
theorem step_xlo {α : Type} {hl : xM.view.LoadsAt (rowR 0).toLoadRect}
    {k : Vec F S1024x1024 .f32 → Prog (TpuEff nD τ sig (Elt F) Λ₀ .tc) α} {Q : α → sProp 𝕄} :
    (xB m ρ c : sProp 𝕄) ⊢ iprop((xB m ρ c -∗ wpc c (k (xlo m ρ c)) Q) -∗ wpc c (.op (.load xM (rowR 0).toLoadRect hl) k) Q) :=
  step_xload m ρ c 0 rfl
theorem step_xhi {α : Type} {hl : xM.view.LoadsAt (rowR 1).toLoadRect}
    {k : Vec F S1024x1024 .f32 → Prog (TpuEff nD τ sig (Elt F) Λ₀ .tc) α} {Q : α → sProp 𝕄} :
    (xB m ρ c : sProp 𝕄) ⊢ iprop((xB m ρ c -∗ wpc c (k (xhi m ρ c)) Q) -∗ wpc c (.op (.load xM (rowR 1).toLoadRect hl) k) Q) :=
  step_xload m ρ c 1 rfl

theorem xh_lo : xh m ρ 0 c = xlo m ρ c := rfl
theorem xh_hi : xh m ρ 1 c = xhi m ρ c := rfl
theorem max_lo : k0_pay2 (xlo m ρ c) = (St0 m ρ 0 c).1 := by unfold St0 statOf; rw [xh_lo]
theorem sum_lo : k0_pay3 (xlo m ρ c) = (St0 m ρ 0 c).2 := by unfold St0 statOf; rw [xh_lo]
theorem max_hi : k0_pay7 (xhi m ρ c) = (St0 m ρ 1 c).1 := by
  unfold St0 statOf; rw [xh_hi]; dsimp only; unfold k0_pay7 k0_pay2 k0_pay6 k0_pay1; with_reducible rfl
theorem sum_hi : k0_pay8 (xhi m ρ c) = (St0 m ρ 1 c).2 := by unfold St0; exact rfl
theorem first_lo : k0_pay4 (xlo m ρ c) = lift5 (St0 m ρ 0 c).1 := by rw [← max_lo]; exact rfl
theorem first_hi : k0_pay9 (xhi m ρ c) = lift5 (St0 m ρ 1 c).1 := by rw [← max_hi]; exact rfl

/-- Part 1 finds the device's own number; the words it computes besides are not used. -/
theorem part1 {Q : _ → sProp 𝕄} :
    (iprop(∀ v2 v19 v29 c2 v30 v35 v37 v38, Q ⟨c, v2, v19, v29, c2, v30, v35, v37, v38⟩) : sProp 𝕄)
      ⊢ wpc c (k0_part1 xM (Memref.isWhole_whole _) oM (Memref.isWhole_whole _) accM (Memref.isWhole_whole _) cc0_scratch1 cc0_scratch2) Q := by
  rw [k0_part1_eq_skeleton]; unfold k0_part1_skel
  simp only [Prog.lift, Prog.bind_op, Prog.bind_ret, Prog.pure_eq_ret, wpc, wp_deviceId]
  iintro H
  iapply (step_ret c)
  iapply H

theorem part2 (w2 w29 w3 w4 w5 w6 : BitVec 32) (w7 : BitVec 1) {Q : _ → sProp 𝕄} :
    (iprop(∀ r, Q r) : sProp 𝕄) ⊢ wpc c (k0_part2 xM (Memref.isWhole_whole _) oM (Memref.isWhole_whole _) accM (Memref.isWhole_whole _) cc0_scratch1 cc0_scratch2 w2 w29 w3 w4 w5 w6 w7) Q := by
  rw [k0_part2_eq_skeleton]; unfold k0_part2_skel
  simp only [Prog.pure_eq_ret]
  iintro H
  iapply (step_ret c)
  iapply H

theorem part3 (w19 w46 w56 w70 w73 w74 : BitVec 32) (w75 w76 : BitVec 1) {Q : _ → sProp 𝕄} :
    (iprop(∀ r, Q r) : sProp 𝕄) ⊢ wpc c (k0_part3 xM (Memref.isWhole_whole _) oM (Memref.isWhole_whole _) accM (Memref.isWhole_whole _) cc0_scratch1 cc0_scratch2 w19 w46 w56 w70 w73 w74 w75 w76) Q := by
  rw [k0_part3_eq_skeleton]; unfold k0_part3_skel
  simp only [Prog.pure_eq_ret]
  iintro H
  iapply (step_ret c)
  iapply H

theorem part4 (w19 w46 w56 w100 w115 w116 w0 : BitVec 32) {Q : _ → sProp 𝕄} :
    (iprop(∀ r, Q r) : sProp 𝕄) ⊢ wpc c (k0_part4 xM (Memref.isWhole_whole _) oM (Memref.isWhole_whole _) accM (Memref.isWhole_whole _) cc0_scratch1 cc0_scratch2 w19 w46 w56 w100 w115 w116 w0) Q := by
  rw [k0_part4_eq_skeleton]; unfold k0_part4_skel
  simp only [Prog.pure_eq_ret]
  iintro H
  iapply (step_ret c)
  iapply H

/-- Part 5 gives the first partner its unit. -/
theorem part5 (l : List Pay) (w19 w29 w59 w152 w153 w0 : BitVec 32) (w154 : BitVec 1) {Q : _ → sProp 𝕄} :
    ctx m ρ K ⊢ iprop(OW c (.unit 0 :: l) -∗ SG c 0
      -∗ (OW c l -∗ ∀ v162 v175 v188, Q ⟨v162, v175, v188, SemArray.scalar (sig.barrier 0 rfl)⟩)
      -∗ wpc c (k0_part5 xM (Memref.isWhole_whole _) oM (Memref.isWhole_whole _) accM (Memref.isWhole_whole _) cc0_scratch1 cc0_scratch2 c w19 w29 w59 w152 w153 w154 w0) Q) := by
  rw [k0_part5_eq_skeleton]; unfold k0_part5_skel
  simp only [semSignalWord, Prog.lift, Prog.bind_op, Prog.bind_ret, Prog.pure_eq_ret]
  iintro #Hc HO G0 Hk
  iapply (step_unit m ρ K c 0 l (dev1_eq c) rfl) $$ Hc HO G0
  iintro HO
  iapply (step_ret c)
  iapply Hk $$ HO

/-- Part 6 gives the six others theirs, and stores the maxima of half 0. -/
theorem part6 (l : List Pay) (w1 w2 w3 w4 w5 w6 : BitVec 32) {f : AccBuf F} {Q : _ → sProp 𝕄} :
    ctx m ρ K ⊢ iprop(OW c (.unit 1 :: .unit 2 :: .unit 3 :: .unit 4 :: .unit 5 :: .unit 6 :: l)
      -∗ SG c 1 -∗ SG c 2 -∗ SG c 3 -∗ SG c 4 -∗ SG c 5 -∗ SG c 6 -∗ xB m ρ c -∗ pt c 0 0 fullShare f
      -∗ (OW c l -∗ xB m ρ c -∗ pt c 0 0 fullShare (half (St0 m ρ 0 c).1 f) -∗ Q ⟨(St0 m ρ 0 c).1, (St0 m ρ 0 c).2⟩)
      -∗ wpc c (k0_part6 xM (Memref.isWhole_whole _) oM (Memref.isWhole_whole _) accM (Memref.isWhole_whole _) cc0_scratch1 cc0_scratch2 c w1 w2 w3 w4 w5 w6 (SemArray.scalar (sig.barrier 0 rfl))) Q) := by
  rw [k0_part6_eq_skeleton]; unfold k0_part6_skel
  simp only [semSignalWord, Prog.lift, Prog.bind_op, Prog.bind_ret, Prog.pure_eq_ret]
  iintro #Hc HO G1 G2 G3 G4 G5 G6 X S0 Hk
  iapply (step_unit m ρ K c 1 _ (dev2_eq c) rfl) $$ Hc HO G1; iintro HO
  iapply (step_unit m ρ K c 2 _ (dev3_eq c) rfl) $$ Hc HO G2; iintro HO
  iapply (step_unit m ρ K c 3 _ (dev4_eq c) rfl) $$ Hc HO G3; iintro HO
  iapply (step_unit m ρ K c 4 _ (dev5_eq c) rfl) $$ Hc HO G4; iintro HO
  iapply (step_unit m ρ K c 5 _ (dev6_eq c) rfl) $$ Hc HO G5; iintro HO
  iapply (step_unit m ρ K c 6 _ (dev7_eq c) rfl) $$ Hc HO G6; iintro HO
  iapply (step_xlo m ρ c) $$ X; iintro X
  iapply (step_putMax c 0 0 (St0 m ρ 0 c).1 (first_lo m ρ c)) $$ S0; iintro S0
  iapply (step_ret c)
  rw [max_lo m ρ c, sum_lo m ρ c]
  iapply Hk $$ HO X S0

/-- Part 7 stores the sums of half 0, waits for the seven units, starts the first copy, and stores the maxima of half 1. -/
theorem part7 (l : List Pay) (hl : ∀ x ∈ (Pay.copy 0 0 :: l), 1 < x.rank) (w : BitVec 32) {f f' : AccBuf F} {Q : _ → sProp 𝕄} :
    ctx m ρ K ⊢ iprop(OW c (.copy 0 0 :: l) -∗ BW c -∗ TX c 0 0 -∗ pt c 0 0 fullShare (half (St0 m ρ 0 c).1 f) -∗ xB m ρ c
      -∗ pt c 1 0 fullShare f'
      -∗ (OW c l -∗ semVal (barCell c) 0 -∗ FL c 0 0 -∗ DS c 1 0 -∗ slotsOf c 1 -∗ slotsOf c 2 -∗ slotsOf c 3 -∗ slotsOf c 4
          -∗ slotsOf c 5 -∗ slotsOf c 6 -∗ xB m ρ c -∗ pt c 1 0 fullShare (half (St0 m ρ 1 c).1 f')
          -∗ Q ⟨(St0 m ρ 1 c).1, (St0 m ρ 1 c).2⟩)
      -∗ wpc c (k0_part7 xM (Memref.isWhole_whole _) oM (Memref.isWhole_whole _) accM (Memref.isWhole_whole _) cc0_scratch1 cc0_scratch2 c w (SemArray.scalar (sig.barrier 0 rfl)) (St0 m ρ 0 c).2) Q) := by
  rw [k0_part7_eq_skeleton]; unfold k0_part7_skel
  simp only [semWaitWord, Prog.lift, Prog.bind_op, Prog.bind_ret, Prog.pure_eq_ret]
  iintro #Hc HO HW T00 S0 X S1 Hk
  iapply (step_putSum c 0 0 (St0 m ρ 0 c) rfl) $$ S0; iintro S0
  iapply (step_barrier m ρ K c (.copy 0 0 :: l) hl rfl) $$ Hc HO HW
  iintro HO Zb Hp
  icases (slots_of_bar c) $$ Hp with ⟨E0, E1, E2, E3, E4, E5, E6⟩
  unfold slotsOf
  icases E0 with ⟨E00, E10⟩
  iapply (step_copy m ρ K c 0 0 _ (A := St0 m ρ 0 c) rfl (t := fullShare) rfl (dev8_eq c) rfl rfl rfl rfl) $$ Hc HO T00 E00 S0
  iintro HO F00
  iapply (step_xhi m ρ c) $$ X; iintro X
  iapply (step_putMax c 1 0 (St0 m ρ 1 c).1 (first_hi m ρ c)) $$ S1; iintro S1
  iapply (step_ret c)
  rw [max_hi m ρ c, sum_hi m ρ c]
  iapply Hk $$ HO Zb F00 E10 E1 E2 E3 E4 E5 E6 X S1

/-- Part 8 stores the sums of half 1, starts its first copy, and writes the exponentials of half 0. -/
theorem part8 (l : List Pay) (w : BitVec 32) {f : AccBuf F} {A B : FVec F S1024x1024 .bf16} {Q : _ → sProp 𝕄} :
    ctx m ρ K ⊢ iprop(OW c (.copy 1 0 :: l)
      -∗ TX c 1 0
      -∗ DS c 1 0
      -∗ pt c 1 0 fullShare (half (St0 m ρ 1 c).1 f)
      -∗ xB m ρ c
      -∗ outP c A B
      -∗ (OW c l
        -∗ FL c 1 0
        -∗ xB m ρ c
        -∗ outP c (expsOf m ρ 0 c) B
        -∗ Q ⟨⟩)
      -∗ wpc c (k0_part8 xM (Memref.isWhole_whole _) oM (Memref.isWhole_whole _) accM (Memref.isWhole_whole _) cc0_scratch1 cc0_scratch2 c w (St0 m ρ 0 c).1 (St0 m ρ 1 c).2) Q) := by
  rw [k0_part8_eq_skeleton]; unfold k0_part8_skel
  simp only [semSignalWord, semWaitWord, Prog.lift, Prog.bind_op, Prog.bind_ret, Prog.pure_eq_ret]
  iintro #Hc HO T10 E10 S1 X O Hk
  iapply (step_putSum c 1 0 (St0 m ρ 1 c) rfl) $$ S1; iintro S1
  iapply (step_copy m ρ K c 1 0 _ (A := St0 m ρ 1 c) rfl (t := fullShare) rfl (dev9_eq c) rfl rfl rfl rfl) $$ Hc HO T10 E10 S1
  iintro HO F10
  iapply (step_xlo m ρ c) $$ X; iintro X
  iapply (step_dropLo c (w := expsOf m ρ 0 c)) $$ O; iintro O
  iapply (step_ret c)
  iapply Hk $$ HO F10 X O

/-- Part 9 waits for the first copies of half 0 and loads the two pairs. -/
theorem part9 (l : List Pay) (hl : ∀ x ∈ l, 2 < x.rank) (w : BitVec 32) {Q : _ → sProp 𝕄} :
    ctx m ρ K ⊢ iprop(OW c l
      -∗ FL c 0 0
      -∗ RX c 0 0
      -∗ (OW c l
        -∗ semVal (sendCell c 0 0) 0
        -∗ semVal (recvCell c 0 0) 0
        -∗ pt c 0 0 fullShare (fill (St0 m ρ 0 c))
        -∗ pt c 0 1 fullShare (fill (St0 m ρ 0 (peer 0 c)))
        -∗ Q ⟨k0_pay13 (lift5 (St0 m ρ 0 (peer 0 c)).1), k0_pay14 (lift5 (St0 m ρ 0 (peer 0 c)).2), k0_pay15 (lift5 (St0 m ρ 0 c).1) (lift5 (St0 m ρ 0 (peer 0 c)).1), k0_pay16 (lift5 (St0 m ρ 0 c).1) (lift5 (St0 m ρ 0 (peer 0 c)).1) (lift5 (St0 m ρ 0 c).2)⟩)
      -∗ wpc c (k0_part9 xM (Memref.isWhole_whole _) oM (Memref.isWhole_whole _) accM (Memref.isWhole_whole _) cc0_scratch1 cc0_scratch2 w) Q) := by
  rw [k0_part9_eq_skeleton]; unfold k0_part9_skel
  simp only [semSignalWord, semWaitWord, Prog.lift, Prog.bind_op, Prog.bind_ret, Prog.pure_eq_ret]
  iintro #Hc HO F00 R00 Hk
  iapply (step_sent m ρ K c 0 0 _ (St0 m ρ 0 c) rfl fullShare rfl rfl 0 rfl) $$ Hc HO F00
  iintro HO Y00 S0
  iapply (step_recvd m ρ K c 0 0 l hl (St0 m ρ 0 (peer 0 c)) rfl 1 rfl rfl 1 rfl) $$ Hc HO R00
  iintro HO Z00 D01
  iapply (step_max c 0 0) $$ S0; iintro S0
  iapply (step_max c 0 1) $$ D01; iintro D01
  iapply (step_sum c 0 0) $$ S0; iintro S0
  iapply (step_sum c 0 1) $$ D01; iintro D01
  iapply (step_ret c)
  iapply Hk $$ HO Y00 Z00 S0 D01

/-- Part 10 stores the pair of two devices and starts the second phase's first copy of half 0. -/
theorem part10 (l : List Pay) (w1 w2 : BitVec 32) {Q : _ → sProp 𝕄} :
    ctx m ρ K ⊢ iprop(OW c (.copy 0 1 :: l)
      -∗ TX c 0 1
      -∗ DS c 0 1
      -∗ pt c 0 0 fullShare (fill (St0 m ρ 0 c))
      -∗ (OW c l
        -∗ FL c 0 1
        -∗ pt c 0 0 fullShare.right.left (fill (St1 m ρ 0 c))
        -∗ pt c 0 0 fullShare.right.right (fill (St1 m ρ 0 c))
        -∗ Q ⟨⟩)
      -∗ wpc c (k0_part10 xM (Memref.isWhole_whole _) oM (Memref.isWhole_whole _) accM (Memref.isWhole_whole _) cc0_scratch1 cc0_scratch2 c w1 w2 (k0_pay13 (lift5 (St0 m ρ 0 (peer 0 c)).1)) (k0_pay14 (lift5 (St0 m ρ 0 (peer 0 c)).2)) (k0_pay15 (lift5 (St0 m ρ 0 c).1) (lift5 (St0 m ρ 0 (peer 0 c)).1)) (k0_pay16 (lift5 (St0 m ρ 0 c).1) (lift5 (St0 m ρ 0 (peer 0 c)).1) (lift5 (St0 m ρ 0 c).2))) Q) := by
  rw [k0_part10_eq_skeleton]; unfold k0_part10_skel
  simp only [semSignalWord, semWaitWord, Prog.lift, Prog.bind_op, Prog.bind_ret, Prog.pure_eq_ret]
  iintro #Hc HO T01 E01 S0 Hk
  iapply (step_putMax c 0 0 (St1 m ρ 0 c).1 (two_max_lo (St0 m ρ 0 c) (St0 m ρ 0 (peer 0 c)))) $$ S0; iintro S0
  iapply (step_putSum c 0 0 (St1 m ρ 0 c) (two_sum_lo (St0 m ρ 0 c) (St0 m ρ 0 (peer 0 c)))) $$ S0; iintro S0
  icases (split_share c 0 0 _) $$ S0 with ⟨A0, B0, C0⟩
  iapply (step_copy m ρ K c 0 1 _ (A := St1 m ρ 0 c) rfl (t := fullShare.left) rfl (dev10_eq c) rfl rfl rfl rfl) $$ Hc HO T01 E01 A0
  iintro HO F01
  iapply (step_ret c)
  iapply Hk $$ HO F01 B0 C0

/-- Part 11 starts the two other copies of the second phase, and waits for what the first copy of half 1 read. -/
theorem part11 (l : List Pay) (w : BitVec 32) {Q : _ → sProp 𝕄} :
    ctx m ρ K ⊢ iprop(OW c (.copy 0 2 :: .copy 0 3 :: l)
      -∗ TX c 0 2
      -∗ DS c 0 2
      -∗ pt c 0 0 fullShare.right.left (fill (St1 m ρ 0 c))
      -∗ TX c 0 3
      -∗ DS c 0 3
      -∗ pt c 0 0 fullShare.right.right (fill (St1 m ρ 0 c))
      -∗ FL c 1 0
      -∗ (OW c l
        -∗ FL c 0 2
        -∗ FL c 0 3
        -∗ semVal (sendCell c 1 0) 0
        -∗ pt c 1 0 fullShare (fill (St0 m ρ 1 c))
        -∗ Q ⟨⟩)
      -∗ wpc c (k0_part11 xM (Memref.isWhole_whole _) oM (Memref.isWhole_whole _) accM (Memref.isWhole_whole _) cc0_scratch1 cc0_scratch2 c w) Q) := by
  rw [k0_part11_eq_skeleton]; unfold k0_part11_skel
  simp only [semSignalWord, semWaitWord, Prog.lift, Prog.bind_op, Prog.bind_ret, Prog.pure_eq_ret]
  iintro #Hc HO T02 E02 B0 T03 E03 C0 F10 Hk
  iapply (step_copy m ρ K c 0 2 _ (A := St1 m ρ 0 c) rfl (t := fullShare.right.left) rfl (dev11_eq c) rfl rfl rfl rfl) $$ Hc HO T02 E02 B0
  iintro HO F02
  iapply (step_copy m ρ K c 0 3 _ (A := St1 m ρ 0 c) rfl (t := fullShare.right.right) rfl (dev12_eq c) rfl rfl rfl rfl) $$ Hc HO T03 E03 C0
  iintro HO F03
  iapply (step_sent m ρ K c 1 0 _ (St0 m ρ 1 c) rfl fullShare rfl rfl 0 rfl) $$ Hc HO F10
  iintro HO Y10 S1
  iapply (step_ret c)
  iapply Hk $$ HO F02 F03 Y10 S1

/-- Part 12 waits for the first copy of half 1 and combines the two pairs. -/
theorem part12 (l : List Pay) (hl : ∀ x ∈ l, 2 < x.rank) (w : BitVec 32) {Q : _ → sProp 𝕄} :
    ctx m ρ K ⊢ iprop(OW c l
      -∗ RX c 1 0
      -∗ pt c 1 0 fullShare (fill (St0 m ρ 1 c))
      -∗ (OW c l
        -∗ semVal (recvCell c 1 0) 0
        -∗ pt c 1 0 fullShare (fill (St0 m ρ 1 c))
        -∗ pt c 1 1 fullShare (fill (St0 m ρ 1 (peer 0 c)))
        -∗ Q ⟨(St1 m ρ 1 c).1, (St1 m ρ 1 c).2⟩)
      -∗ wpc c (k0_part12 xM (Memref.isWhole_whole _) oM (Memref.isWhole_whole _) accM (Memref.isWhole_whole _) cc0_scratch1 cc0_scratch2 w) Q) := by
  rw [k0_part12_eq_skeleton]; unfold k0_part12_skel
  simp only [semSignalWord, semWaitWord, Prog.lift, Prog.bind_op, Prog.bind_ret, Prog.pure_eq_ret]
  iintro #Hc HO R10 S1 Hk
  iapply (step_recvd m ρ K c 1 0 l hl (St0 m ρ 1 (peer 0 c)) rfl 1 rfl rfl 1 rfl) $$ Hc HO R10
  iintro HO Z10 D11
  iapply (step_max c 1 0) $$ S1; iintro S1
  iapply (step_max c 1 1) $$ D11; iintro D11
  iapply (step_sum c 1 0) $$ S1; iintro S1
  iapply (step_sum c 1 1) $$ D11; iintro D11
  iapply (step_ret c)
  rw [two_max_hi (St0 m ρ 1 c) (St0 m ρ 1 (peer 0 c)), two_sum_hi (St0 m ρ 1 c) (St0 m ρ 1 (peer 0 c)), show comb2 (St0 m ρ 1 c) (St0 m ρ 1 (peer 0 c)) = St1 m ρ 1 c from rfl]
  iapply Hk $$ HO Z10 S1 D11

/-- Part 13 stores it and starts the second phase's first copy of half 1. -/
theorem part13 (l : List Pay) (w1 w2 : BitVec 32) {Q : _ → sProp 𝕄} :
    ctx m ρ K ⊢ iprop(OW c (.copy 1 1 :: l)
      -∗ TX c 1 1
      -∗ DS c 1 1
      -∗ pt c 1 0 fullShare (fill (St0 m ρ 1 c))
      -∗ (OW c l
        -∗ FL c 1 1
        -∗ pt c 1 0 fullShare.right.left (fill (St1 m ρ 1 c))
        -∗ pt c 1 0 fullShare.right.right (fill (St1 m ρ 1 c))
        -∗ Q ⟨⟩)
      -∗ wpc c (k0_part13 xM (Memref.isWhole_whole _) oM (Memref.isWhole_whole _) accM (Memref.isWhole_whole _) cc0_scratch1 cc0_scratch2 c w1 w2 (St1 m ρ 1 c).1 (St1 m ρ 1 c).2) Q) := by
  rw [k0_part13_eq_skeleton]; unfold k0_part13_skel
  simp only [semSignalWord, semWaitWord, Prog.lift, Prog.bind_op, Prog.bind_ret, Prog.pure_eq_ret]
  iintro #Hc HO T11 E11 S1 Hk
  iapply (step_putMax c 1 0 (St1 m ρ 1 c).1 rfl) $$ S1; iintro S1
  iapply (step_putSum c 1 0 (St1 m ρ 1 c) rfl) $$ S1; iintro S1
  icases (split_share c 1 0 _) $$ S1 with ⟨A1, B1, C1⟩
  iapply (step_copy m ρ K c 1 1 _ (A := St1 m ρ 1 c) rfl (t := fullShare.left) rfl (dev13_eq c) rfl rfl rfl rfl) $$ Hc HO T11 E11 A1
  iintro HO F11
  iapply (step_ret c)
  iapply Hk $$ HO F11 B1 C1

/-- Part 14 starts the two others, and writes the exponentials of half 1. -/
theorem part14 (l : List Pay) (w : BitVec 32) {A B : FVec F S1024x1024 .bf16} {Q : _ → sProp 𝕄} :
    ctx m ρ K ⊢ iprop(OW c (.copy 1 2 :: .copy 1 3 :: l)
      -∗ TX c 1 2
      -∗ DS c 1 2
      -∗ pt c 1 0 fullShare.right.left (fill (St1 m ρ 1 c))
      -∗ TX c 1 3
      -∗ DS c 1 3
      -∗ pt c 1 0 fullShare.right.right (fill (St1 m ρ 1 c))
      -∗ xB m ρ c
      -∗ outP c A B
      -∗ (OW c l
        -∗ FL c 1 2
        -∗ FL c 1 3
        -∗ xB m ρ c
        -∗ outP c A (expsOf m ρ 1 c)
        -∗ Q ⟨⟩)
      -∗ wpc c (k0_part14 xM (Memref.isWhole_whole _) oM (Memref.isWhole_whole _) accM (Memref.isWhole_whole _) cc0_scratch1 cc0_scratch2 c w (St0 m ρ 1 c).1) Q) := by
  rw [k0_part14_eq_skeleton]; unfold k0_part14_skel
  simp only [semSignalWord, semWaitWord, Prog.lift, Prog.bind_op, Prog.bind_ret, Prog.pure_eq_ret]
  iintro #Hc HO T12 E12 B1 T13 E13 C1 X O Hk
  iapply (step_copy m ρ K c 1 2 _ (A := St1 m ρ 1 c) rfl (t := fullShare.right.left) rfl (dev14_eq c) rfl rfl rfl rfl) $$ Hc HO T12 E12 B1
  iintro HO F12
  iapply (step_copy m ρ K c 1 3 _ (A := St1 m ρ 1 c) rfl (t := fullShare.right.right) rfl (dev15_eq c) rfl rfl rfl rfl) $$ Hc HO T13 E13 C1
  iintro HO F13
  iapply (step_xhi m ρ c) $$ X; iintro X
  iapply (step_dropHi c (w := expsOf m ρ 1 c)) $$ O; iintro O
  iapply (step_ret c)
  iapply Hk $$ HO F12 F13 X O

end Cert.KernelProof

end
-- ==== Proof.PartsB.lean ====
/-
# The body's parts, in the second phase

One theorem per part of the printed body: from what the part takes to what it leaves, with the values it returns.
-/
module

public import proofs.«01_k».proof.Proof.Out
public import proofs.«01_k».proof.Proof.Values

@[expose] public section

set_option maxRecDepth 20000

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 29 → ℕ) (c : Dev nD)

/-- Part 15 waits for the first copies of the second phase. -/
theorem part15 (l : List Pay) (hl : ∀ x ∈ l, 3 < x.rank) (w1 w2 : BitVec 32) {Q : _ → sProp 𝕄} :
    ctx m ρ K ⊢ iprop(OW c l
      -∗ FL c 0 1
      -∗ RX c 0 1
      -∗ FL c 0 2
      -∗ (OW c l
        -∗ semVal (sendCell c 0 1) 0
        -∗ semVal (recvCell c 0 1) 0
        -∗ semVal (sendCell c 0 2) 0
        -∗ pt c 0 0 fullShare.left (fill (St1 m ρ 0 c))
        -∗ pt c 0 4 fullShare (fill (St1 m ρ 0 (peer 3 c)))
        -∗ pt c 0 0 fullShare.right.left (fill (St1 m ρ 0 c))
        -∗ Q ⟨⟩)
      -∗ wpc c (k0_part15 xM (Memref.isWhole_whole _) oM (Memref.isWhole_whole _) accM (Memref.isWhole_whole _) cc0_scratch1 cc0_scratch2 w1 w2) Q) := by
  rw [k0_part15_eq_skeleton]; unfold k0_part15_skel
  simp only [semSignalWord, semWaitWord, Prog.lift, Prog.bind_op, Prog.bind_ret, Prog.pure_eq_ret]
  iintro #Hc HO F01 R01 F02 Hk
  iapply (step_sent m ρ K c 0 1 _ (St1 m ρ 0 c) rfl fullShare.left rfl rfl 0 rfl) $$ Hc HO F01
  iintro HO Y01 A0
  iapply (step_recvd m ρ K c 0 1 l hl (St1 m ρ 0 (peer 3 c)) rfl 4 rfl rfl 4 rfl) $$ Hc HO R01
  iintro HO Z01 D04
  iapply (step_sent m ρ K c 0 2 _ (St1 m ρ 0 c) rfl fullShare.right.left rfl rfl 0 rfl) $$ Hc HO F02
  iintro HO Y02 B0
  iapply (step_ret c)
  iapply Hk $$ HO Y01 Z01 Y02 A0 D04 B0

/-- Part 16 waits for the two others of half 0. -/
theorem part16 (l : List Pay) (hl : ∀ x ∈ l, 3 < x.rank) (w : BitVec 32) {Q : _ → sProp 𝕄} :
    ctx m ρ K ⊢ iprop(OW c l
      -∗ RX c 0 2
      -∗ FL c 0 3
      -∗ RX c 0 3
      -∗ pt c 0 0 fullShare.left (fill (St1 m ρ 0 c))
      -∗ pt c 0 0 fullShare.right.left (fill (St1 m ρ 0 c))
      -∗ (OW c l
        -∗ semVal (recvCell c 0 2) 0
        -∗ semVal (sendCell c 0 3) 0
        -∗ semVal (recvCell c 0 3) 0
        -∗ pt c 0 0 fullShare (fill (St1 m ρ 0 c))
        -∗ pt c 0 3 fullShare (fill (St1 m ρ 0 (peer 2 c)))
        -∗ pt c 0 2 fullShare (fill (St1 m ρ 0 (peer 1 c)))
        -∗ Q (k0_pay26 (lift5 (St1 m ρ 0 c).1)))
      -∗ wpc c (k0_part16 xM (Memref.isWhole_whole _) oM (Memref.isWhole_whole _) accM (Memref.isWhole_whole _) cc0_scratch1 cc0_scratch2 w) Q) := by
  rw [k0_part16_eq_skeleton]; unfold k0_part16_skel
  simp only [semSignalWord, semWaitWord, Prog.lift, Prog.bind_op, Prog.bind_ret, Prog.pure_eq_ret]
  iintro #Hc HO R02 F03 R03 A0 B0 Hk
  iapply (step_recvd m ρ K c 0 2 l hl (St1 m ρ 0 (peer 2 c)) rfl 3 rfl rfl 3 rfl) $$ Hc HO R02
  iintro HO Z02 D03
  iapply (step_sent m ρ K c 0 3 _ (St1 m ρ 0 c) rfl fullShare.right.right rfl rfl 0 rfl) $$ Hc HO F03
  iintro HO Y03 C0
  iapply (step_recvd m ρ K c 0 3 l hl (St1 m ρ 0 (peer 1 c)) rfl 2 rfl rfl 2 rfl) $$ Hc HO R03
  iintro HO Z03 D02
  ihave S0 := (join_share c 0 0 (fill (St1 m ρ 0 c))) $$ [A0 B0 C0]
  · isplitl [A0]; · iexact A0
    isplitl [B0] <;> iassumption
  iapply (step_max c 0 0) $$ S0; iintro S0
  iapply (step_ret c)
  iapply Hk $$ HO Z02 Y03 Z03 S0 D03 D02

/-- Part 17 loads the four pairs of half 0. -/
theorem part17 (l : List Pay) {Q : _ → sProp 𝕄} :
    ctx m ρ K ⊢ iprop(pt c 0 0 fullShare (fill (St1 m ρ 0 c))
      -∗ pt c 0 2 fullShare (fill (St1 m ρ 0 (peer 1 c)))
      -∗ pt c 0 3 fullShare (fill (St1 m ρ 0 (peer 2 c)))
      -∗ pt c 0 4 fullShare (fill (St1 m ρ 0 (peer 3 c)))
      -∗ (pt c 0 0 fullShare (fill (St1 m ρ 0 c))
        -∗ pt c 0 2 fullShare (fill (St1 m ρ 0 (peer 1 c)))
        -∗ pt c 0 3 fullShare (fill (St1 m ρ 0 (peer 2 c)))
        -∗ pt c 0 4 fullShare (fill (St1 m ρ 0 (peer 3 c)))
        -∗ Q ⟨k0_pay29 (lift5 (St1 m ρ 0 (peer 3 c)).1), k0_pay30 (lift5 (St1 m ρ 0 (peer 2 c)).2), k0_pay31 (lift5 (St1 m ρ 0 (peer 3 c)).2), k0_pay32 (k0_pay26 (lift5 (St1 m ρ 0 c).1)) (lift5 (St1 m ρ 0 (peer 1 c)).1) (lift5 (St1 m ρ 0 (peer 2 c)).1) (lift5 (St1 m ρ 0 (peer 3 c)).1), k0_pay33 (k0_pay26 (lift5 (St1 m ρ 0 c).1)) (lift5 (St1 m ρ 0 (peer 1 c)).1) (lift5 (St1 m ρ 0 (peer 2 c)).1) (lift5 (St1 m ρ 0 (peer 3 c)).1) (lift5 (St1 m ρ 0 c).2) (lift5 (St1 m ρ 0 (peer 1 c)).2), k0_pay34 (k0_pay26 (lift5 (St1 m ρ 0 c).1)) (lift5 (St1 m ρ 0 (peer 1 c)).1) (lift5 (St1 m ρ 0 (peer 2 c)).1) (lift5 (St1 m ρ 0 (peer 3 c)).1)⟩)
      -∗ wpc c (k0_part17 xM (Memref.isWhole_whole _) oM (Memref.isWhole_whole _) accM (Memref.isWhole_whole _) cc0_scratch1 cc0_scratch2 (k0_pay26 (lift5 (St1 m ρ 0 c).1))) Q) := by
  rw [k0_part17_eq_skeleton]; unfold k0_part17_skel
  simp only [semSignalWord, semWaitWord, Prog.lift, Prog.bind_op, Prog.bind_ret, Prog.pure_eq_ret]
  iintro #Hc S0 D02 D03 D04 Hk
  iapply (step_max c 0 2) $$ D02; iintro D02
  iapply (step_max c 0 3) $$ D03; iintro D03
  iapply (step_max c 0 4) $$ D04; iintro D04
  iapply (step_sum c 0 0) $$ S0; iintro S0
  iapply (step_sum c 0 2) $$ D02; iintro D02
  iapply (step_sum c 0 3) $$ D03; iintro D03
  iapply (step_sum c 0 4) $$ D04; iintro D04
  iapply (step_ret c)
  iapply Hk $$ S0 D02 D03 D04

/-- Part 18 stores their combination and starts the third phase's first copy of half 0. -/
theorem part18 (l : List Pay) (w1 w2 : BitVec 32) {Q : _ → sProp 𝕄} :
    ctx m ρ K ⊢ iprop(OW c (.copy 0 4 :: l)
      -∗ TX c 0 4
      -∗ DS c 0 4
      -∗ pt c 0 0 fullShare (fill (St1 m ρ 0 c))
      -∗ (OW c l
        -∗ FL c 0 4
        -∗ pt c 0 0 fullShare.right.left (fill (St2 m ρ 0 c))
        -∗ pt c 0 0 fullShare.right.right (fill (St2 m ρ 0 c))
        -∗ Q ⟨⟩)
      -∗ wpc c (k0_part18 xM (Memref.isWhole_whole _) oM (Memref.isWhole_whole _) accM (Memref.isWhole_whole _) cc0_scratch1 cc0_scratch2 c w1 w2 (k0_pay29 (lift5 (St1 m ρ 0 (peer 3 c)).1)) (k0_pay30 (lift5 (St1 m ρ 0 (peer 2 c)).2)) (k0_pay31 (lift5 (St1 m ρ 0 (peer 3 c)).2)) (k0_pay32 (k0_pay26 (lift5 (St1 m ρ 0 c).1)) (lift5 (St1 m ρ 0 (peer 1 c)).1) (lift5 (St1 m ρ 0 (peer 2 c)).1) (lift5 (St1 m ρ 0 (peer 3 c)).1)) (k0_pay33 (k0_pay26 (lift5 (St1 m ρ 0 c).1)) (lift5 (St1 m ρ 0 (peer 1 c)).1) (lift5 (St1 m ρ 0 (peer 2 c)).1) (lift5 (St1 m ρ 0 (peer 3 c)).1) (lift5 (St1 m ρ 0 c).2) (lift5 (St1 m ρ 0 (peer 1 c)).2)) (k0_pay34 (k0_pay26 (lift5 (St1 m ρ 0 c).1)) (lift5 (St1 m ρ 0 (peer 1 c)).1) (lift5 (St1 m ρ 0 (peer 2 c)).1) (lift5 (St1 m ρ 0 (peer 3 c)).1))) Q) := by
  rw [k0_part18_eq_skeleton]; unfold k0_part18_skel
  simp only [semSignalWord, semWaitWord, Prog.lift, Prog.bind_op, Prog.bind_ret, Prog.pure_eq_ret]
  iintro #Hc HO T04 E04 S0 Hk
  iapply (step_putMax c 0 0 (St2 m ρ 0 c).1 (four_max_lo (St1 m ρ 0 c) (St1 m ρ 0 (peer 1 c)) (St1 m ρ 0 (peer 2 c)) (St1 m ρ 0 (peer 3 c)))) $$ S0; iintro S0
  iapply (step_putSum c 0 0 (St2 m ρ 0 c) (four_sum_lo (St1 m ρ 0 c) (St1 m ρ 0 (peer 1 c)) (St1 m ρ 0 (peer 2 c)) (St1 m ρ 0 (peer 3 c)))) $$ S0; iintro S0
  icases (split_share c 0 0 _) $$ S0 with ⟨A0, B0, C0⟩
  iapply (step_copy m ρ K c 0 4 _ (A := St2 m ρ 0 c) rfl (t := fullShare.left) rfl (dev16_eq c) rfl rfl rfl rfl) $$ Hc HO T04 E04 A0
  iintro HO F04
  iapply (step_ret c)
  iapply Hk $$ HO F04 B0 C0

/-- Part 19 starts the two others, and waits for what the first copy of half 1 read. -/
theorem part19 (l : List Pay) (w : BitVec 32) {Q : _ → sProp 𝕄} :
    ctx m ρ K ⊢ iprop(OW c (.copy 0 5 :: .copy 0 6 :: l)
      -∗ TX c 0 5
      -∗ DS c 0 5
      -∗ pt c 0 0 fullShare.right.left (fill (St2 m ρ 0 c))
      -∗ TX c 0 6
      -∗ DS c 0 6
      -∗ pt c 0 0 fullShare.right.right (fill (St2 m ρ 0 c))
      -∗ FL c 1 1
      -∗ (OW c l
        -∗ FL c 0 5
        -∗ FL c 0 6
        -∗ semVal (sendCell c 1 1) 0
        -∗ pt c 1 0 fullShare.left (fill (St1 m ρ 1 c))
        -∗ Q ⟨⟩)
      -∗ wpc c (k0_part19 xM (Memref.isWhole_whole _) oM (Memref.isWhole_whole _) accM (Memref.isWhole_whole _) cc0_scratch1 cc0_scratch2 c w) Q) := by
  rw [k0_part19_eq_skeleton]; unfold k0_part19_skel
  simp only [semSignalWord, semWaitWord, Prog.lift, Prog.bind_op, Prog.bind_ret, Prog.pure_eq_ret]
  iintro #Hc HO T05 E05 B0 T06 E06 C0 F11 Hk
  iapply (step_copy m ρ K c 0 5 _ (A := St2 m ρ 0 c) rfl (t := fullShare.right.left) rfl (dev17_eq c) rfl rfl rfl rfl) $$ Hc HO T05 E05 B0
  iintro HO F05
  iapply (step_copy m ρ K c 0 6 _ (A := St2 m ρ 0 c) rfl (t := fullShare.right.right) rfl (dev18_eq c) rfl rfl rfl rfl) $$ Hc HO T06 E06 C0
  iintro HO F06
  iapply (step_sent m ρ K c 1 1 _ (St1 m ρ 1 c) rfl fullShare.left rfl rfl 0 rfl) $$ Hc HO F11
  iintro HO Y11 A1
  iapply (step_ret c)
  iapply Hk $$ HO F05 F06 Y11 A1

/-- Part 20 waits for the first copy of half 1, and for what the second read. -/
theorem part20 (l : List Pay) (hl : ∀ x ∈ l, 3 < x.rank) (w1 w2 : BitVec 32) {Q : _ → sProp 𝕄} :
    ctx m ρ K ⊢ iprop(OW c l
      -∗ RX c 1 1
      -∗ FL c 1 2
      -∗ (OW c l
        -∗ semVal (recvCell c 1 1) 0
        -∗ semVal (sendCell c 1 2) 0
        -∗ pt c 1 4 fullShare (fill (St1 m ρ 1 (peer 3 c)))
        -∗ pt c 1 0 fullShare.right.left (fill (St1 m ρ 1 c))
        -∗ Q ⟨⟩)
      -∗ wpc c (k0_part20 xM (Memref.isWhole_whole _) oM (Memref.isWhole_whole _) accM (Memref.isWhole_whole _) cc0_scratch1 cc0_scratch2 w1 w2) Q) := by
  rw [k0_part20_eq_skeleton]; unfold k0_part20_skel
  simp only [semSignalWord, semWaitWord, Prog.lift, Prog.bind_op, Prog.bind_ret, Prog.pure_eq_ret]
  iintro #Hc HO R11 F12 Hk
  iapply (step_recvd m ρ K c 1 1 l hl (St1 m ρ 1 (peer 3 c)) rfl 4 rfl rfl 4 rfl) $$ Hc HO R11
  iintro HO Z11 D14
  iapply (step_sent m ρ K c 1 2 _ (St1 m ρ 1 c) rfl fullShare.right.left rfl rfl 0 rfl) $$ Hc HO F12
  iintro HO Y12 B1
  iapply (step_ret c)
  iapply Hk $$ HO Z11 Y12 D14 B1

/-- Part 21 waits for the rest of the second phase of half 1. -/
theorem part21 (l : List Pay) (hl : ∀ x ∈ l, 3 < x.rank) (w : BitVec 32) {Q : _ → sProp 𝕄} :
    ctx m ρ K ⊢ iprop(OW c l
      -∗ RX c 1 2
      -∗ FL c 1 3
      -∗ RX c 1 3
      -∗ pt c 1 0 fullShare.left (fill (St1 m ρ 1 c))
      -∗ pt c 1 0 fullShare.right.left (fill (St1 m ρ 1 c))
      -∗ (OW c l
        -∗ semVal (recvCell c 1 2) 0
        -∗ semVal (sendCell c 1 3) 0
        -∗ semVal (recvCell c 1 3) 0
        -∗ pt c 1 0 fullShare (fill (St1 m ρ 1 c))
        -∗ pt c 1 3 fullShare (fill (St1 m ρ 1 (peer 2 c)))
        -∗ pt c 1 2 fullShare (fill (St1 m ρ 1 (peer 1 c)))
        -∗ Q (k0_pay37 (lift5 (St1 m ρ 1 c).1)))
      -∗ wpc c (k0_part21 xM (Memref.isWhole_whole _) oM (Memref.isWhole_whole _) accM (Memref.isWhole_whole _) cc0_scratch1 cc0_scratch2 w) Q) := by
  rw [k0_part21_eq_skeleton]; unfold k0_part21_skel
  simp only [semSignalWord, semWaitWord, Prog.lift, Prog.bind_op, Prog.bind_ret, Prog.pure_eq_ret]
  iintro #Hc HO R12 F13 R13 A1 B1 Hk
  iapply (step_recvd m ρ K c 1 2 l hl (St1 m ρ 1 (peer 2 c)) rfl 3 rfl rfl 3 rfl) $$ Hc HO R12
  iintro HO Z12 D13
  iapply (step_sent m ρ K c 1 3 _ (St1 m ρ 1 c) rfl fullShare.right.right rfl rfl 0 rfl) $$ Hc HO F13
  iintro HO Y13 C1
  iapply (step_recvd m ρ K c 1 3 l hl (St1 m ρ 1 (peer 1 c)) rfl 2 rfl rfl 2 rfl) $$ Hc HO R13
  iintro HO Z13 D12
  ihave S1 := (join_share c 1 0 (fill (St1 m ρ 1 c))) $$ [A1 B1 C1]
  · isplitl [A1]; · iexact A1
    isplitl [B1] <;> iassumption
  iapply (step_max c 1 0) $$ S1; iintro S1
  iapply (step_ret c)
  iapply Hk $$ HO Z12 Y13 Z13 S1 D13 D12

/-- Part 22 loads the four pairs of half 1. -/
theorem part22 (l : List Pay) {Q : _ → sProp 𝕄} :
    ctx m ρ K ⊢ iprop(pt c 1 0 fullShare (fill (St1 m ρ 1 c))
      -∗ pt c 1 2 fullShare (fill (St1 m ρ 1 (peer 1 c)))
      -∗ pt c 1 3 fullShare (fill (St1 m ρ 1 (peer 2 c)))
      -∗ pt c 1 4 fullShare (fill (St1 m ρ 1 (peer 3 c)))
      -∗ (pt c 1 0 fullShare (fill (St1 m ρ 1 c))
        -∗ pt c 1 2 fullShare (fill (St1 m ρ 1 (peer 1 c)))
        -∗ pt c 1 3 fullShare (fill (St1 m ρ 1 (peer 2 c)))
        -∗ pt c 1 4 fullShare (fill (St1 m ρ 1 (peer 3 c)))
        -∗ Q ⟨k0_pay41 (lift5 (St1 m ρ 1 (peer 3 c)).2), k0_pay42 (k0_pay37 (lift5 (St1 m ρ 1 c).1)) (lift5 (St1 m ρ 1 (peer 1 c)).1) (lift5 (St1 m ρ 1 (peer 2 c)).1) (lift5 (St1 m ρ 1 (peer 3 c)).1), k0_pay43 (k0_pay37 (lift5 (St1 m ρ 1 c).1)) (lift5 (St1 m ρ 1 (peer 1 c)).1) (lift5 (St1 m ρ 1 (peer 2 c)).1) (lift5 (St1 m ρ 1 (peer 3 c)).1) (lift5 (St1 m ρ 1 c).2) (lift5 (St1 m ρ 1 (peer 1 c)).2) (lift5 (St1 m ρ 1 (peer 2 c)).2), k0_pay44 (k0_pay37 (lift5 (St1 m ρ 1 c).1)) (lift5 (St1 m ρ 1 (peer 1 c)).1) (lift5 (St1 m ρ 1 (peer 2 c)).1) (lift5 (St1 m ρ 1 (peer 3 c)).1)⟩)
      -∗ wpc c (k0_part22 xM (Memref.isWhole_whole _) oM (Memref.isWhole_whole _) accM (Memref.isWhole_whole _) cc0_scratch1 cc0_scratch2 (k0_pay37 (lift5 (St1 m ρ 1 c).1))) Q) := by
  rw [k0_part22_eq_skeleton]; unfold k0_part22_skel
  simp only [semSignalWord, semWaitWord, Prog.lift, Prog.bind_op, Prog.bind_ret, Prog.pure_eq_ret]
  iintro #Hc S1 D12 D13 D14 Hk
  iapply (step_max c 1 2) $$ D12; iintro D12
  iapply (step_max c 1 3) $$ D13; iintro D13
  iapply (step_max c 1 4) $$ D14; iintro D14
  iapply (step_sum c 1 0) $$ S1; iintro S1
  iapply (step_sum c 1 2) $$ D12; iintro D12
  iapply (step_sum c 1 3) $$ D13; iintro D13
  iapply (step_sum c 1 4) $$ D14; iintro D14
  iapply (step_ret c)
  iapply Hk $$ S1 D12 D13 D14

/-- Part 23 stores their combination and starts the third phase's first copy of half 1. -/
theorem part23 (l : List Pay) (w1 w2 : BitVec 32) {Q : _ → sProp 𝕄} :
    ctx m ρ K ⊢ iprop(OW c (.copy 1 4 :: l)
      -∗ TX c 1 4
      -∗ DS c 1 4
      -∗ pt c 1 0 fullShare (fill (St1 m ρ 1 c))
      -∗ (OW c l
        -∗ FL c 1 4
        -∗ pt c 1 0 fullShare.right.left (fill (St2 m ρ 1 c))
        -∗ pt c 1 0 fullShare.right.right (fill (St2 m ρ 1 c))
        -∗ Q ⟨⟩)
      -∗ wpc c (k0_part23 xM (Memref.isWhole_whole _) oM (Memref.isWhole_whole _) accM (Memref.isWhole_whole _) cc0_scratch1 cc0_scratch2 c w1 w2 (k0_pay41 (lift5 (St1 m ρ 1 (peer 3 c)).2)) (k0_pay42 (k0_pay37 (lift5 (St1 m ρ 1 c).1)) (lift5 (St1 m ρ 1 (peer 1 c)).1) (lift5 (St1 m ρ 1 (peer 2 c)).1) (lift5 (St1 m ρ 1 (peer 3 c)).1)) (k0_pay43 (k0_pay37 (lift5 (St1 m ρ 1 c).1)) (lift5 (St1 m ρ 1 (peer 1 c)).1) (lift5 (St1 m ρ 1 (peer 2 c)).1) (lift5 (St1 m ρ 1 (peer 3 c)).1) (lift5 (St1 m ρ 1 c).2) (lift5 (St1 m ρ 1 (peer 1 c)).2) (lift5 (St1 m ρ 1 (peer 2 c)).2)) (k0_pay44 (k0_pay37 (lift5 (St1 m ρ 1 c).1)) (lift5 (St1 m ρ 1 (peer 1 c)).1) (lift5 (St1 m ρ 1 (peer 2 c)).1) (lift5 (St1 m ρ 1 (peer 3 c)).1))) Q) := by
  rw [k0_part23_eq_skeleton]; unfold k0_part23_skel
  simp only [semSignalWord, semWaitWord, Prog.lift, Prog.bind_op, Prog.bind_ret, Prog.pure_eq_ret]
  iintro #Hc HO T14 E14 S1 Hk
  iapply (step_putMax c 1 0 (St2 m ρ 1 c).1 (four_max_hi (St1 m ρ 1 c) (St1 m ρ 1 (peer 1 c)) (St1 m ρ 1 (peer 2 c)) (St1 m ρ 1 (peer 3 c)))) $$ S1; iintro S1
  iapply (step_putSum c 1 0 (St2 m ρ 1 c) (four_sum_hi (St1 m ρ 1 c) (St1 m ρ 1 (peer 1 c)) (St1 m ρ 1 (peer 2 c)) (St1 m ρ 1 (peer 3 c)))) $$ S1; iintro S1
  icases (split_share c 1 0 _) $$ S1 with ⟨A1, B1, C1⟩
  iapply (step_copy m ρ K c 1 4 _ (A := St2 m ρ 1 c) rfl (t := fullShare.left) rfl (dev19_eq c) rfl rfl rfl rfl) $$ Hc HO T14 E14 A1
  iintro HO F14
  iapply (step_ret c)
  iapply Hk $$ HO F14 B1 C1

/-- Part 24 starts the two others, and waits for what the first copy of half 0 read. -/
theorem part24 (l : List Pay) (w : BitVec 32) {Q : _ → sProp 𝕄} :
    ctx m ρ K ⊢ iprop(OW c (.copy 1 5 :: .copy 1 6 :: l)
      -∗ TX c 1 5
      -∗ DS c 1 5
      -∗ pt c 1 0 fullShare.right.left (fill (St2 m ρ 1 c))
      -∗ TX c 1 6
      -∗ DS c 1 6
      -∗ pt c 1 0 fullShare.right.right (fill (St2 m ρ 1 c))
      -∗ FL c 0 4
      -∗ (OW c l
        -∗ FL c 1 5
        -∗ FL c 1 6
        -∗ semVal (sendCell c 0 4) 0
        -∗ pt c 0 0 fullShare.left (fill (St2 m ρ 0 c))
        -∗ Q ⟨⟩)
      -∗ wpc c (k0_part24 xM (Memref.isWhole_whole _) oM (Memref.isWhole_whole _) accM (Memref.isWhole_whole _) cc0_scratch1 cc0_scratch2 c w) Q) := by
  rw [k0_part24_eq_skeleton]; unfold k0_part24_skel
  simp only [semSignalWord, semWaitWord, Prog.lift, Prog.bind_op, Prog.bind_ret, Prog.pure_eq_ret]
  iintro #Hc HO T15 E15 B1 T16 E16 C1 F04 Hk
  iapply (step_copy m ρ K c 1 5 _ (A := St2 m ρ 1 c) rfl (t := fullShare.right.left) rfl (dev20_eq c) rfl rfl rfl rfl) $$ Hc HO T15 E15 B1
  iintro HO F15
  iapply (step_copy m ρ K c 1 6 _ (A := St2 m ρ 1 c) rfl (t := fullShare.right.right) rfl (dev21_eq c) rfl rfl rfl rfl) $$ Hc HO T16 E16 C1
  iintro HO F16
  iapply (step_sent m ρ K c 0 4 _ (St2 m ρ 0 c) rfl fullShare.left rfl rfl 0 rfl) $$ Hc HO F04
  iintro HO Y04 A0
  iapply (step_ret c)
  iapply Hk $$ HO F15 F16 Y04 A0

end Cert.KernelProof

end
-- ==== Proof.PartsC.lean ====
/-
# The body's parts, in the third phase

One theorem per part of the printed body: from what the part takes to what it leaves, with the values it returns.
-/
module

public import proofs.«01_k».proof.Proof.Out
public import proofs.«01_k».proof.Proof.Values

@[expose] public section

set_option maxRecDepth 20000

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 29 → ℕ) (c : Dev nD)

/-- Part 25 waits for the third phase's first copy of half 0, and for what the second read. -/
theorem part25 (l : List Pay) (hl : ∀ x ∈ l, 4 < x.rank) (w1 w2 : BitVec 32) {Q : _ → sProp 𝕄} :
    ctx m ρ K ⊢ iprop(OW c l
      -∗ RX c 0 4
      -∗ FL c 0 5
      -∗ (OW c l
        -∗ semVal (recvCell c 0 4) 0
        -∗ semVal (sendCell c 0 5) 0
        -∗ pt c 0 7 fullShare (fill (St2 m ρ 0 (peer 6 c)))
        -∗ pt c 0 0 fullShare.right.left (fill (St2 m ρ 0 c))
        -∗ Q ⟨⟩)
      -∗ wpc c (k0_part25 xM (Memref.isWhole_whole _) oM (Memref.isWhole_whole _) accM (Memref.isWhole_whole _) cc0_scratch1 cc0_scratch2 w1 w2) Q) := by
  rw [k0_part25_eq_skeleton]; unfold k0_part25_skel
  simp only [semSignalWord, semWaitWord, Prog.lift, Prog.bind_op, Prog.bind_ret, Prog.pure_eq_ret]
  iintro #Hc HO R04 F05 Hk
  iapply (step_recvd m ρ K c 0 4 l hl (St2 m ρ 0 (peer 6 c)) rfl 7 rfl rfl 7 rfl) $$ Hc HO R04
  iintro HO Z04 D07
  iapply (step_sent m ρ K c 0 5 _ (St2 m ρ 0 c) rfl fullShare.right.left rfl rfl 0 rfl) $$ Hc HO F05
  iintro HO Y05 B0
  iapply (step_ret c)
  iapply Hk $$ HO Z04 Y05 D07 B0

/-- Part 26 waits for the rest of the third phase of half 0. -/
theorem part26 (l : List Pay) (hl : ∀ x ∈ l, 4 < x.rank) (w : BitVec 32) {Q : _ → sProp 𝕄} :
    ctx m ρ K ⊢ iprop(OW c l
      -∗ RX c 0 5
      -∗ FL c 0 6
      -∗ RX c 0 6
      -∗ pt c 0 0 fullShare.left (fill (St2 m ρ 0 c))
      -∗ pt c 0 0 fullShare.right.left (fill (St2 m ρ 0 c))
      -∗ (OW c l
        -∗ semVal (recvCell c 0 5) 0
        -∗ semVal (sendCell c 0 6) 0
        -∗ semVal (recvCell c 0 6) 0
        -∗ pt c 0 0 fullShare (fill (St2 m ρ 0 c))
        -∗ pt c 0 6 fullShare (fill (St2 m ρ 0 (peer 5 c)))
        -∗ pt c 0 5 fullShare (fill (St2 m ρ 0 (peer 4 c)))
        -∗ Q ⟨k0_pay47 (lift5 (St2 m ρ 0 c).1), k0_pay48 (lift5 (St2 m ρ 0 (peer 4 c)).1)⟩)
      -∗ wpc c (k0_part26 xM (Memref.isWhole_whole _) oM (Memref.isWhole_whole _) accM (Memref.isWhole_whole _) cc0_scratch1 cc0_scratch2 w) Q) := by
  rw [k0_part26_eq_skeleton]; unfold k0_part26_skel
  simp only [semSignalWord, semWaitWord, Prog.lift, Prog.bind_op, Prog.bind_ret, Prog.pure_eq_ret]
  iintro #Hc HO R05 F06 R06 A0 B0 Hk
  iapply (step_recvd m ρ K c 0 5 l hl (St2 m ρ 0 (peer 5 c)) rfl 6 rfl rfl 6 rfl) $$ Hc HO R05
  iintro HO Z05 D06
  iapply (step_sent m ρ K c 0 6 _ (St2 m ρ 0 c) rfl fullShare.right.right rfl rfl 0 rfl) $$ Hc HO F06
  iintro HO Y06 C0
  iapply (step_recvd m ρ K c 0 6 l hl (St2 m ρ 0 (peer 4 c)) rfl 5 rfl rfl 5 rfl) $$ Hc HO R06
  iintro HO Z06 D05
  ihave S0 := (join_share c 0 0 (fill (St2 m ρ 0 c))) $$ [A0 B0 C0]
  · isplitl [A0]; · iexact A0
    isplitl [B0] <;> iassumption
  iapply (step_max c 0 0) $$ S0; iintro S0
  iapply (step_max c 0 5) $$ D05; iintro D05
  iapply (step_ret c)
  iapply Hk $$ HO Z05 Y06 Z06 S0 D06 D05

/-- Part 27 combines the four pairs of half 0. -/
theorem part27 (l : List Pay) {Q : _ → sProp 𝕄} :
    ctx m ρ K ⊢ iprop(pt c 0 0 fullShare (fill (St2 m ρ 0 c))
      -∗ pt c 0 5 fullShare (fill (St2 m ρ 0 (peer 4 c)))
      -∗ pt c 0 6 fullShare (fill (St2 m ρ 0 (peer 5 c)))
      -∗ pt c 0 7 fullShare (fill (St2 m ρ 0 (peer 6 c)))
      -∗ (pt c 0 0 fullShare (fill (St2 m ρ 0 c))
        -∗ pt c 0 5 fullShare (fill (St2 m ρ 0 (peer 4 c)))
        -∗ pt c 0 6 fullShare (fill (St2 m ρ 0 (peer 5 c)))
        -∗ pt c 0 7 fullShare (fill (St2 m ρ 0 (peer 6 c)))
        -∗ Q ⟨(St3 m ρ 0 c).1, (St3 m ρ 0 c).2⟩)
      -∗ wpc c (k0_part27 xM (Memref.isWhole_whole _) oM (Memref.isWhole_whole _) accM (Memref.isWhole_whole _) cc0_scratch1 cc0_scratch2 (k0_pay47 (lift5 (St2 m ρ 0 c).1)) (k0_pay48 (lift5 (St2 m ρ 0 (peer 4 c)).1))) Q) := by
  rw [k0_part27_eq_skeleton]; unfold k0_part27_skel
  simp only [semSignalWord, semWaitWord, Prog.lift, Prog.bind_op, Prog.bind_ret, Prog.pure_eq_ret]
  iintro #Hc S0 D05 D06 D07 Hk
  iapply (step_max c 0 6) $$ D06; iintro D06
  iapply (step_max c 0 7) $$ D07; iintro D07
  iapply (step_sum c 0 0) $$ S0; iintro S0
  iapply (step_sum c 0 5) $$ D05; iintro D05
  iapply (step_sum c 0 6) $$ D06; iintro D06
  iapply (step_sum c 0 7) $$ D07; iintro D07
  iapply (step_ret c)
  rw [last_max_lo (St2 m ρ 0 c) (St2 m ρ 0 (peer 4 c)) (St2 m ρ 0 (peer 5 c)) (St2 m ρ 0 (peer 6 c)), last_sum_lo (St2 m ρ 0 c) (St2 m ρ 0 (peer 4 c)) (St2 m ρ 0 (peer 5 c)) (St2 m ρ 0 (peer 6 c)), show comb4 (St2 m ρ 0 c) (St2 m ρ 0 (peer 4 c)) (St2 m ρ 0 (peer 5 c)) (St2 m ρ 0 (peer 6 c)) = St3 m ρ 0 c from rfl]
  iapply Hk $$ S0 D05 D06 D07

/-- Part 28 stores the combination, scales half 0 of the result, and waits for what the first copy of half 1 read. -/
theorem part28 (l : List Pay) {B : FVec F S1024x1024 .bf16} {Q : _ → sProp 𝕄} :
    ctx m ρ K ⊢ iprop(OW c l
      -∗ pt c 0 0 fullShare (fill (St2 m ρ 0 c))
      -∗ outP c (expsOf m ρ 0 c) B
      -∗ FL c 1 4
      -∗ (OW c l
        -∗ pt c 0 0 fullShare (fill (St3 m ρ 0 c))
        -∗ outP c (resOf m ρ 0 c) B
        -∗ semVal (sendCell c 1 4) 0
        -∗ pt c 1 0 fullShare.left (fill (St2 m ρ 1 c))
        -∗ Q ⟨⟩)
      -∗ wpc c (k0_part28 xM (Memref.isWhole_whole _) oM (Memref.isWhole_whole _) accM (Memref.isWhole_whole _) cc0_scratch1 cc0_scratch2 (St0 m ρ 0 c).1 (St3 m ρ 0 c).1 (St3 m ρ 0 c).2) Q) := by
  rw [k0_part28_eq_skeleton]; unfold k0_part28_skel
  simp only [semSignalWord, semWaitWord, Prog.lift, Prog.bind_op, Prog.bind_ret, Prog.pure_eq_ret]
  iintro #Hc HO S0 O F14 Hk
  iapply (step_putMax c 0 0 (St3 m ρ 0 c).1 rfl) $$ S0; iintro S0
  iapply (step_putSum c 0 0 (St3 m ρ 0 c) rfl) $$ S0; iintro S0
  iapply (step_getLo c) $$ O; iintro O
  iapply (step_dropLo c (w := resOf m ρ 0 c)) $$ O; iintro O
  iapply (step_sent m ρ K c 1 4 _ (St2 m ρ 1 c) rfl fullShare.left rfl rfl 0 rfl) $$ Hc HO F14
  iintro HO Y14 A1
  iapply (step_ret c)
  iapply Hk $$ HO S0 O Y14 A1

/-- Part 29 waits for the third phase's first copy of half 1, and for the second. -/
theorem part29 (l : List Pay) (hl : ∀ x ∈ l, 4 < x.rank) (w1 w2 : BitVec 32) {Q : _ → sProp 𝕄} :
    ctx m ρ K ⊢ iprop(OW c l
      -∗ RX c 1 4
      -∗ FL c 1 5
      -∗ RX c 1 5
      -∗ (OW c l
        -∗ semVal (recvCell c 1 4) 0
        -∗ semVal (sendCell c 1 5) 0
        -∗ semVal (recvCell c 1 5) 0
        -∗ pt c 1 7 fullShare (fill (St2 m ρ 1 (peer 6 c)))
        -∗ pt c 1 0 fullShare.right.left (fill (St2 m ρ 1 c))
        -∗ pt c 1 6 fullShare (fill (St2 m ρ 1 (peer 5 c)))
        -∗ Q ⟨⟩)
      -∗ wpc c (k0_part29 xM (Memref.isWhole_whole _) oM (Memref.isWhole_whole _) accM (Memref.isWhole_whole _) cc0_scratch1 cc0_scratch2 w1 w2) Q) := by
  rw [k0_part29_eq_skeleton]; unfold k0_part29_skel
  simp only [semSignalWord, semWaitWord, Prog.lift, Prog.bind_op, Prog.bind_ret, Prog.pure_eq_ret]
  iintro #Hc HO R14 F15 R15 Hk
  iapply (step_recvd m ρ K c 1 4 l hl (St2 m ρ 1 (peer 6 c)) rfl 7 rfl rfl 7 rfl) $$ Hc HO R14
  iintro HO Z14 D17
  iapply (step_sent m ρ K c 1 5 _ (St2 m ρ 1 c) rfl fullShare.right.left rfl rfl 0 rfl) $$ Hc HO F15
  iintro HO Y15 B1
  iapply (step_recvd m ρ K c 1 5 l hl (St2 m ρ 1 (peer 5 c)) rfl 6 rfl rfl 6 rfl) $$ Hc HO R15
  iintro HO Z15 D16
  iapply (step_ret c)
  iapply Hk $$ HO Z14 Y15 Z15 D17 B1 D16

/-- Part 30 waits for the rest of the third phase of half 1. -/
theorem part30 (l : List Pay) (hl : ∀ x ∈ l, 4 < x.rank) (w : BitVec 32) {Q : _ → sProp 𝕄} :
    ctx m ρ K ⊢ iprop(OW c l
      -∗ FL c 1 6
      -∗ RX c 1 6
      -∗ pt c 1 0 fullShare.left (fill (St2 m ρ 1 c))
      -∗ pt c 1 0 fullShare.right.left (fill (St2 m ρ 1 c))
      -∗ (OW c l
        -∗ semVal (sendCell c 1 6) 0
        -∗ semVal (recvCell c 1 6) 0
        -∗ pt c 1 0 fullShare (fill (St2 m ρ 1 c))
        -∗ pt c 1 5 fullShare (fill (St2 m ρ 1 (peer 4 c)))
        -∗ Q ⟨k0_pay56 (lift5 (St2 m ρ 1 c).1), k0_pay57 (lift5 (St2 m ρ 1 (peer 4 c)).1)⟩)
      -∗ wpc c (k0_part30 xM (Memref.isWhole_whole _) oM (Memref.isWhole_whole _) accM (Memref.isWhole_whole _) cc0_scratch1 cc0_scratch2 w) Q) := by
  rw [k0_part30_eq_skeleton]; unfold k0_part30_skel
  simp only [semSignalWord, semWaitWord, Prog.lift, Prog.bind_op, Prog.bind_ret, Prog.pure_eq_ret]
  iintro #Hc HO F16 R16 A1 B1 Hk
  iapply (step_sent m ρ K c 1 6 _ (St2 m ρ 1 c) rfl fullShare.right.right rfl rfl 0 rfl) $$ Hc HO F16
  iintro HO Y16 C1
  iapply (step_recvd m ρ K c 1 6 l hl (St2 m ρ 1 (peer 4 c)) rfl 5 rfl rfl 5 rfl) $$ Hc HO R16
  iintro HO Z16 D15
  ihave S1 := (join_share c 1 0 (fill (St2 m ρ 1 c))) $$ [A1 B1 C1]
  · isplitl [A1]; · iexact A1
    isplitl [B1] <;> iassumption
  iapply (step_max c 1 0) $$ S1; iintro S1
  iapply (step_max c 1 5) $$ D15; iintro D15
  iapply (step_ret c)
  iapply Hk $$ HO Y16 Z16 S1 D15

/-- Part 31 combines the four pairs of half 1. -/
theorem part31 (l : List Pay) {Q : _ → sProp 𝕄} :
    ctx m ρ K ⊢ iprop(pt c 1 0 fullShare (fill (St2 m ρ 1 c))
      -∗ pt c 1 5 fullShare (fill (St2 m ρ 1 (peer 4 c)))
      -∗ pt c 1 6 fullShare (fill (St2 m ρ 1 (peer 5 c)))
      -∗ pt c 1 7 fullShare (fill (St2 m ρ 1 (peer 6 c)))
      -∗ (pt c 1 0 fullShare (fill (St2 m ρ 1 c))
        -∗ pt c 1 5 fullShare (fill (St2 m ρ 1 (peer 4 c)))
        -∗ pt c 1 6 fullShare (fill (St2 m ρ 1 (peer 5 c)))
        -∗ pt c 1 7 fullShare (fill (St2 m ρ 1 (peer 6 c)))
        -∗ Q ⟨(St3 m ρ 1 c).1, (St3 m ρ 1 c).2⟩)
      -∗ wpc c (k0_part31 xM (Memref.isWhole_whole _) oM (Memref.isWhole_whole _) accM (Memref.isWhole_whole _) cc0_scratch1 cc0_scratch2 (k0_pay56 (lift5 (St2 m ρ 1 c).1)) (k0_pay57 (lift5 (St2 m ρ 1 (peer 4 c)).1))) Q) := by
  rw [k0_part31_eq_skeleton]; unfold k0_part31_skel
  simp only [semSignalWord, semWaitWord, Prog.lift, Prog.bind_op, Prog.bind_ret, Prog.pure_eq_ret]
  iintro #Hc S1 D15 D16 D17 Hk
  iapply (step_max c 1 6) $$ D16; iintro D16
  iapply (step_max c 1 7) $$ D17; iintro D17
  iapply (step_sum c 1 0) $$ S1; iintro S1
  iapply (step_sum c 1 5) $$ D15; iintro D15
  iapply (step_sum c 1 6) $$ D16; iintro D16
  iapply (step_sum c 1 7) $$ D17; iintro D17
  iapply (step_ret c)
  rw [last_max_hi (St2 m ρ 1 c) (St2 m ρ 1 (peer 4 c)) (St2 m ρ 1 (peer 5 c)) (St2 m ρ 1 (peer 6 c)), last_sum_hi (St2 m ρ 1 c) (St2 m ρ 1 (peer 4 c)) (St2 m ρ 1 (peer 5 c)) (St2 m ρ 1 (peer 6 c)), show comb4 (St2 m ρ 1 c) (St2 m ρ 1 (peer 4 c)) (St2 m ρ 1 (peer 5 c)) (St2 m ρ 1 (peer 6 c)) = St3 m ρ 1 c from rfl]
  iapply Hk $$ S1 D15 D16 D17

end Cert.KernelProof

end
-- ==== Proof.Body.lean ====
/-
# The body

The parts put together: from what a device holds at the start to what it holds at the end.
-/
module

public import proofs.«01_k».proof.Proof.PartsA
public import proofs.«01_k».proof.Proof.PartsB
public import proofs.«01_k».proof.Proof.PartsC

@[expose] public section

set_option maxRecDepth 20000

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 29 → ℕ) (c : Dev nD)

/-- Something held for each of the seven partners. -/
def each7 (Φ : Fin 7 → sProp 𝕄) : sProp 𝕄 := iprop(Φ 0 ∗ Φ 1 ∗ Φ 2 ∗ Φ 3 ∗ Φ 4 ∗ Φ 5 ∗ Φ 6)

theorem each7_eq (Φ : Fin 7 → sProp 𝕄) : (bigSep Finset.univ Φ : sProp 𝕄) = each7 Φ :=
  bigSep_univ_eq_bigSepL [0, 1, 2, 3, 4, 5, 6] (by decide) (by decide) _

theorem step_bind {α β : Type} {p : Prog (TpuEff nD τ sig (Elt F) Λ₀ .tc) α} {k : α → Prog (TpuEff nD τ sig (Elt F) Λ₀ .tc) β}
    {Q : β → sProp 𝕄} : wpc c p (fun a => wpc c (k a) Q) ⊢ wpc c (p >>= k) Q := by
  unfold wpc; rw [← wp_bind]

/-- The eight slots of a half, whatever they hold. -/
def slots8 (h : Fin 2) : sProp 𝕄 :=
  iprop((∃ f : AccBuf F, pt c h 0 fullShare f) ∗ each7 fun i => iprop(∃ f : AccBuf F, pt c h (dslot i) fullShare f))

theorem slots8_intro (h : Fin 2) (f0 f1 f2 f3 f4 f5 f6 f7 : AccBuf F) :
    (pt c h 0 fullShare f0 : sProp 𝕄) ⊢ iprop(pt c h 1 fullShare f1 -∗ pt c h 2 fullShare f2 -∗ pt c h 3 fullShare f3
      -∗ pt c h 4 fullShare f4 -∗ pt c h 5 fullShare f5 -∗ pt c h 6 fullShare f6 -∗ pt c h 7 fullShare f7 -∗ slots8 c h) := by
  iintro H0 H1 H2 H3 H4 H5 H6 H7
  unfold slots8 each7
  isplitl [H0]; · iexists f0; iexact H0
  isplitl [H1]; · iexists f1; iexact H1
  isplitl [H4]; · iexists f4; iexact H4
  isplitl [H3]; · iexists f3; iexact H3
  isplitl [H2]; · iexists f2; iexact H2
  isplitl [H7]; · iexists f7; iexact H7
  isplitl [H6]; · iexists f6; iexact H6
  iexists f5; iexact H5

/-- What a device holds at the end. -/
def done : sProp 𝕄 :=
  iprop(OW c [] ∗ semVal (barCell c) 0
    ∗ (each7 fun i => semVal (sendCell c 0 i) 0) ∗ (each7 fun i => semVal (sendCell c 1 i) 0)
    ∗ (each7 fun i => semVal (recvCell c 0 i) 0) ∗ (each7 fun i => semVal (recvCell c 1 i) 0)
    ∗ slots8 c 0 ∗ slots8 c 1 ∗ xB m ρ c ∗ outP c (resOf m ρ 0 c) (resOf m ρ 1 c))

theorem last_res : k0_pay64 (St0 m ρ 1 c).1 (St3 m ρ 1 c).1 (St3 m ρ 1 c).2 (expsOf m ρ 1 c) = resOf m ρ 1 c := rfl

set_option maxHeartbeats 4000000 in
/-- The body's parts in order. -/
theorem whole_parts {f f' : AccBuf F} {A B : FVec F S1024x1024 .bf16} {Q : _ → sProp 𝕄} :
    ctx m ρ K ⊢ iprop(OW c allPays -∗ each7 (SG c) -∗ BW c -∗ each7 (TX c 0) -∗ each7 (TX c 1) -∗ each7 (RX c 0) -∗ each7 (RX c 1)
      -∗ xB m ρ c -∗ pt c 0 0 fullShare f -∗ pt c 1 0 fullShare f' -∗ outP c A B
      -∗ (done m ρ c -∗ Q ⟨⟩)
      -∗ wpc c (cc0_body xM (Memref.isWhole_whole _) oM (Memref.isWhole_whole _) accM (Memref.isWhole_whole _) cc0_scratch1 cc0_scratch2) Q) := by
  rw [cc0_body_eq_skeleton]; unfold cc0_body_skel
  rw [k0_part32_eq_skeleton]; unfold k0_part32_skel
  unfold each7 allPays
  iintro #Hc HO ⟨G0, G1, G2, G3, G4, G5, G6⟩ HW ⟨T00, T01, T02, T03, T04, T05, T06⟩ ⟨T10, T11, T12, T13, T14, T15, T16⟩ ⟨R00, R01, R02, R03, R04, R05, R06⟩ ⟨R10, R11, R12, R13, R14, R15, R16⟩ X S0 S1 O Hk
  iapply (step_bind c)
  iapply (step_bind c)
  iapply (part1 c)
  iintro %v2 %v19 %v29 %c2 %v30 %v35 %v37 %v38; dsimp only
  iapply (step_bind c)
  iapply (part2 c)
  iintro %r2
  iapply (step_bind c)
  iapply (part3 c)
  iintro %r3
  iapply (step_bind c)
  iapply (part4 c)
  iintro %r4
  iapply (step_bind c)
  iapply (part5 m ρ K c [.unit 1, .unit 2, .unit 3, .unit 4, .unit 5, .unit 6, .copy 0 0, .copy 1 0, .copy 0 1, .copy 0 2, .copy 0 3, .copy 1 1, .copy 1 2, .copy 1 3, .copy 0 4, .copy 0 5, .copy 0 6, .copy 1 4, .copy 1 5, .copy 1 6] _ _ _ _ _ _ _) $$ Hc HO G0
  iintro HO %v162 %v175 %v188; try dsimp only
  iapply (step_bind c)
  iapply (part6 m ρ K c [.copy 0 0, .copy 1 0, .copy 0 1, .copy 0 2, .copy 0 3, .copy 1 1, .copy 1 2, .copy 1 3, .copy 0 4, .copy 0 5, .copy 0 6, .copy 1 4, .copy 1 5, .copy 1 6] _ _ _ _ _ _) $$ Hc HO G1 G2 G3 G4 G5 G6 X S0
  iintro HO X S0; try dsimp only
  iapply (step_bind c)
  iapply (part7 m ρ K c [.copy 1 0, .copy 0 1, .copy 0 2, .copy 0 3, .copy 1 1, .copy 1 2, .copy 1 3, .copy 0 4, .copy 0 5, .copy 0 6, .copy 1 4, .copy 1 5, .copy 1 6] (by decide) _) $$ Hc HO HW T00 S0 X S1
  iintro HO Zb F00 E10 E1 E2 E3 E4 E5 E6 X S1; try dsimp only
  unfold slotsOf
  icases E1 with ⟨E01, E11⟩
  icases E2 with ⟨E02, E12⟩
  icases E3 with ⟨E03, E13⟩
  icases E4 with ⟨E04, E14⟩
  icases E5 with ⟨E05, E15⟩
  icases E6 with ⟨E06, E16⟩
  iapply (step_bind c)
  iapply (part8 m ρ K c [.copy 0 1, .copy 0 2, .copy 0 3, .copy 1 1, .copy 1 2, .copy 1 3, .copy 0 4, .copy 0 5, .copy 0 6, .copy 1 4, .copy 1 5, .copy 1 6] _) $$ Hc HO T10 E10 S1 X O
  iintro HO F10 X O; try dsimp only
  iapply (step_bind c)
  iapply (part9 m ρ K c [.copy 0 1, .copy 0 2, .copy 0 3, .copy 1 1, .copy 1 2, .copy 1 3, .copy 0 4, .copy 0 5, .copy 0 6, .copy 1 4, .copy 1 5, .copy 1 6] (by decide) _) $$ Hc HO F00 R00
  iintro HO Y00 Z00 S0 D01; try dsimp only
  iapply (step_bind c)
  iapply (part10 m ρ K c [.copy 0 2, .copy 0 3, .copy 1 1, .copy 1 2, .copy 1 3, .copy 0 4, .copy 0 5, .copy 0 6, .copy 1 4, .copy 1 5, .copy 1 6] _ _) $$ Hc HO T01 E01 S0
  iintro HO F01 B0 C0; try dsimp only
  iapply (step_bind c)
  iapply (part11 m ρ K c [.copy 1 1, .copy 1 2, .copy 1 3, .copy 0 4, .copy 0 5, .copy 0 6, .copy 1 4, .copy 1 5, .copy 1 6] _) $$ Hc HO T02 E02 B0 T03 E03 C0 F10
  iintro HO F02 F03 Y10 S1; try dsimp only
  iapply (step_bind c)
  iapply (part12 m ρ K c [.copy 1 1, .copy 1 2, .copy 1 3, .copy 0 4, .copy 0 5, .copy 0 6, .copy 1 4, .copy 1 5, .copy 1 6] (by decide) _) $$ Hc HO R10 S1
  iintro HO Z10 S1 D11; try dsimp only
  iapply (step_bind c)
  iapply (part13 m ρ K c [.copy 1 2, .copy 1 3, .copy 0 4, .copy 0 5, .copy 0 6, .copy 1 4, .copy 1 5, .copy 1 6] _ _) $$ Hc HO T11 E11 S1
  iintro HO F11 B1 C1; try dsimp only
  iapply (step_bind c)
  iapply (part14 m ρ K c [.copy 0 4, .copy 0 5, .copy 0 6, .copy 1 4, .copy 1 5, .copy 1 6] _) $$ Hc HO T12 E12 B1 T13 E13 C1 X O
  iintro HO F12 F13 X O; try dsimp only
  iapply (step_bind c)
  iapply (part15 m ρ K c [.copy 0 4, .copy 0 5, .copy 0 6, .copy 1 4, .copy 1 5, .copy 1 6] (by decide) _ _) $$ Hc HO F01 R01 F02
  iintro HO Y01 Z01 Y02 A0 D04 B0; try dsimp only
  iapply (step_bind c)
  iapply (part16 m ρ K c [.copy 0 4, .copy 0 5, .copy 0 6, .copy 1 4, .copy 1 5, .copy 1 6] (by decide) _) $$ Hc HO R02 F03 R03 A0 B0
  iintro HO Z02 Y03 Z03 S0 D03 D02; try dsimp only
  iapply (step_bind c)
  iapply (part17 m ρ K c [.copy 0 4, .copy 0 5, .copy 0 6, .copy 1 4, .copy 1 5, .copy 1 6]) $$ Hc S0 D02 D03 D04
  iintro S0 D02 D03 D04; try dsimp only
  iapply (step_bind c)
  iapply (part18 m ρ K c [.copy 0 5, .copy 0 6, .copy 1 4, .copy 1 5, .copy 1 6] _ _) $$ Hc HO T04 E04 S0
  iintro HO F04 B0 C0; try dsimp only
  iapply (step_bind c)
  iapply (part19 m ρ K c [.copy 1 4, .copy 1 5, .copy 1 6] _) $$ Hc HO T05 E05 B0 T06 E06 C0 F11
  iintro HO F05 F06 Y11 A1; try dsimp only
  iapply (step_bind c)
  iapply (part20 m ρ K c [.copy 1 4, .copy 1 5, .copy 1 6] (by decide) _ _) $$ Hc HO R11 F12
  iintro HO Z11 Y12 D14 B1; try dsimp only
  iapply (step_bind c)
  iapply (part21 m ρ K c [.copy 1 4, .copy 1 5, .copy 1 6] (by decide) _) $$ Hc HO R12 F13 R13 A1 B1
  iintro HO Z12 Y13 Z13 S1 D13 D12; try dsimp only
  iapply (step_bind c)
  iapply (part22 m ρ K c [.copy 1 4, .copy 1 5, .copy 1 6]) $$ Hc S1 D12 D13 D14
  iintro S1 D12 D13 D14; try dsimp only
  iapply (step_bind c)
  iapply (part23 m ρ K c [.copy 1 5, .copy 1 6] _ _) $$ Hc HO T14 E14 S1
  iintro HO F14 B1 C1; try dsimp only
  iapply (step_bind c)
  iapply (part24 m ρ K c [] _) $$ Hc HO T15 E15 B1 T16 E16 C1 F04
  iintro HO F15 F16 Y04 A0; try dsimp only
  iapply (step_bind c)
  iapply (part25 m ρ K c [] (by decide) _ _) $$ Hc HO R04 F05
  iintro HO Z04 Y05 D07 B0; try dsimp only
  iapply (step_bind c)
  iapply (part26 m ρ K c [] (by decide) _) $$ Hc HO R05 F06 R06 A0 B0
  iintro HO Z05 Y06 Z06 S0 D06 D05; try dsimp only
  iapply (step_bind c)
  iapply (part27 m ρ K c []) $$ Hc S0 D05 D06 D07
  iintro S0 D05 D06 D07; try dsimp only
  iapply (step_bind c)
  iapply (part28 m ρ K c []) $$ Hc HO S0 O F14
  iintro HO S0 O Y14 A1; try dsimp only
  iapply (step_bind c)
  iapply (part29 m ρ K c [] (by decide) _ _) $$ Hc HO R14 F15 R15
  iintro HO Z14 Y15 Z15 D17 B1 D16; try dsimp only
  iapply (step_bind c)
  iapply (part30 m ρ K c [] (by decide) _) $$ Hc HO F16 R16 A1 B1
  iintro HO Y16 Z16 S1 D15; try dsimp only
  iapply (step_bind c)
  iapply (part31 m ρ K c []) $$ Hc S1 D15 D16 D17
  iintro S1 D15 D16 D17; try dsimp only
  simp only [Prog.lift, Prog.bind_op, Prog.bind_ret, Prog.pure_eq_ret]
  iapply (step_putMax c 1 0 (St3 m ρ 1 c).1 rfl) $$ S1; iintro S1
  iapply (step_putSum c 1 0 (St3 m ρ 1 c) rfl) $$ S1; iintro S1
  iapply (step_getHi c) $$ O; iintro O
  iapply (step_ret c)
  rw [last_res m ρ c]
  iapply (step_dropHi c (w := resOf m ρ 1 c)) $$ O; iintro O
  iapply (step_ret c)
  iapply Hk
  unfold done each7
  isplitl [HO]; · iexact HO
  isplitl [Zb]; · iexact Zb
  isplitl [Y00 Y01 Y02 Y03 Y04 Y05 Y06]
  · isplitl [Y00]; · iexact Y00
    isplitl [Y01]; · iexact Y01
    isplitl [Y02]; · iexact Y02
    isplitl [Y03]; · iexact Y03
    isplitl [Y04]; · iexact Y04
    isplitl [Y05]; · iexact Y05
    iexact Y06
  isplitl [Y10 Y11 Y12 Y13 Y14 Y15 Y16]
  · isplitl [Y10]; · iexact Y10
    isplitl [Y11]; · iexact Y11
    isplitl [Y12]; · iexact Y12
    isplitl [Y13]; · iexact Y13
    isplitl [Y14]; · iexact Y14
    isplitl [Y15]; · iexact Y15
    iexact Y16
  isplitl [Z00 Z01 Z02 Z03 Z04 Z05 Z06]
  · isplitl [Z00]; · iexact Z00
    isplitl [Z01]; · iexact Z01
    isplitl [Z02]; · iexact Z02
    isplitl [Z03]; · iexact Z03
    isplitl [Z04]; · iexact Z04
    isplitl [Z05]; · iexact Z05
    iexact Z06
  isplitl [Z10 Z11 Z12 Z13 Z14 Z15 Z16]
  · isplitl [Z10]; · iexact Z10
    isplitl [Z11]; · iexact Z11
    isplitl [Z12]; · iexact Z12
    isplitl [Z13]; · iexact Z13
    isplitl [Z14]; · iexact Z14
    isplitl [Z15]; · iexact Z15
    iexact Z16
  isplitl [S0 D01 D02 D03 D04 D05 D06 D07]
  · iapply (slots8_intro c 0 _ _ _ _ _ _ _ _) $$ S0 D01 D02 D03 D04 D05 D06 D07
  isplitl [S1 D11 D12 D13 D14 D15 D16 D17]
  · iapply (slots8_intro c 1 _ _ _ _ _ _ _ _) $$ S1 D11 D12 D13 D14 D15 D16 D17
  isplitl [X]; · iexact X
  iexact O

end Cert.KernelProof

end
-- ==== Proof.Obligation.lean ====
/-
# The launch

The kernel's data for the pipeline, the obligation its body meets, how the launch's resources are dealt to the
devices, and the run of the program.
-/
module

public import proofs.«01_k».proof.Proof.Body
public import Idealize.ShloMosaic.Lib.Pipeline.BigSepL

@[expose] public section

set_option maxRecDepth 20000

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families of seven -/

theorem each7_sep (Φ Ψ : Fin 7 → sProp 𝕄) : each7 (fun i => iprop(Φ i ∗ Ψ i)) = iprop(each7 Φ ∗ each7 Ψ) := by
  rw [← each7_eq, ← each7_eq, ← each7_eq, bigSep_sep']
theorem each7_mono {Φ Ψ : Fin 7 → sProp 𝕄} (h : ∀ i, Φ i ⊢ Ψ i) : (each7 Φ : sProp 𝕄) ⊢ each7 Ψ := by
  rw [← each7_eq, ← each7_eq]; exact bigSep_mono fun i _ => h i

/-- The 29 semaphores as the barrier's and four families of seven. -/
theorem cells_eq (Φ : Fin 29 → sProp 𝕄) : bigSep Finset.univ Φ
    = iprop(Φ 0 ∗ (each7 fun i => Φ (sendIx 0 i)) ∗ (each7 fun i => Φ (sendIx 1 i)) ∗ (each7 fun i => Φ (recvIx 0 i)) ∗ each7 fun i => Φ (recvIx 1 i)) := by
  rw [bigSep_univ_eq_bigSepL ([0] ++ ([1, 2, 3, 4, 5, 6, 7] ++ ([8, 9, 10, 11, 12, 13, 14] ++ ([15, 16, 17, 18, 19, 20, 21]
    ++ [22, 23, 24, 25, 26, 27, 28])))) (by decide +kernel) (by decide +kernel) Φ,
    bigSepL_append, bigSepL_append, bigSepL_append, bigSepL_append]
  rfl

/-! ## The scratch buffer in slots -/

theorem slots_disjoint : ∀ t ∈ (Finset.univ : Finset (Fin 2 × Fin 8)), ∀ t' ∈ (Finset.univ : Finset (Fin 2 × Fin 8)), t ≠ t' →
    Disjoint (slotSet t.1 t.2) (slotSet t'.1 t'.2) := fun t _ t' _ h => slot_disjoint h
theorem slots_cover : (Finset.univ : Finset (Fin 2 × Fin 8)).biUnion (fun t => slotSet t.1 t.2) = Finset.univ := by
  ext i
  simp only [Finset.mem_biUnion, Finset.mem_univ, true_and, iff_true]
  exact ⟨(i 0, i 1), mem_slotSet.mpr ⟨rfl, rfl⟩⟩

theorem halves_eq (Φ : Fin 2 × Fin 8 → sProp 𝕄) : bigSep Finset.univ Φ
    = iprop((Φ (0, 0) ∗ each7 fun i => Φ (0, dslot i)) ∗ (Φ (1, 0) ∗ each7 fun i => Φ (1, dslot i))) := by
  rw [bigSep_univ_prod, bigSep_univ_eq_bigSepL [0, 1] (by decide) (by decide)]
  show iprop((bigSep Finset.univ fun j : Fin 8 => Φ (0, j)) ∗ (bigSep Finset.univ fun j : Fin 8 => Φ (1, j))) = _
  rw [bigSep_univ_eq_bigSepL [0, 1, 4, 3, 2, 7, 6, 5] (by decide) (by decide) (fun j : Fin 8 => Φ (0, j)),
    bigSep_univ_eq_bigSepL [0, 1, 4, 3, 2, 7, 6, 5] (by decide) (by decide) (fun j : Fin 8 => Φ (1, j))]
  rfl

theorem slots_split (c : Dev nD) (f : AccBuf F) : (((c : Thread nD τ).loc cc0_scratch0) ↦{fullShare} f : sProp 𝕄)
    ⊢ iprop((pt c 0 0 fullShare f ∗ each7 fun i => pt c 0 (dslot i) fullShare f) ∗ (pt c 1 0 fullShare f ∗ each7 fun i => pt c 1 (dslot i) fullShare f)) := by
  rw [← halves_eq (fun t => pt c t.1 t.2 fullShare f)]
  unfold pt
  rw [← pointsTo_biUnion (ℓ := (c : Thread nD τ).loc cc0_scratch0) Finset.univ (fun t : Fin 2 × Fin 8 => slotSet t.1 t.2) slots_disjoint, slots_cover]

theorem slots_join (c : Dev nD) : iprop(slots8 c 0 ∗ slots8 c 1) ⊢ (iprop(∃ f : AccBuf F, ((c : Thread nD τ).loc cc0_scratch0) ↦{fullShare} f) : sProp 𝕄) := by
  unfold slots8
  rw [← halves_eq (fun t => iprop(∃ f : AccBuf F, pt c t.1 t.2 fullShare f))]
  iintro H
  ihave H := (BI.bigSep_exists_pi Finset.univ (fun (t : Fin 2 × Fin 8) (f : AccBuf F) => (pt c t.1 t.2 fullShare f : sProp 𝕄))) $$ H
  icases H with ⟨%fs, H⟩
  unfold pt
  ihave H := (pointsTo_biUnion_join (ℓ := (c : Thread nD τ).loc cc0_scratch0) Finset.univ (fun t : Fin 2 × Fin 8 => slotSet t.1 t.2) fs (fs (0, 0)) slots_disjoint) $$ H
  icases H with ⟨%g, -, H⟩
  iexists g
  rw [slots_cover]
  iexact H

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The duties device `c` pays: units, then the send and the receive side of its copies. -/
def payToks (c : Dev nD) : sProp 𝕄 :=
  iprop((each7 fun i => dutyTok ER (barCell (peer i c)) 0 (inv i))
    ∗ (each7 fun i => dutyTok ER (sendCell c 0 i) 0 0) ∗ (each7 fun i => dutyTok ER (sendCell c 1 i) 0 0)
    ∗ (each7 fun i => dutyTok ER (recvCell (peer i c) 0 i) 0 0) ∗ (each7 fun i => dutyTok ER (recvCell (peer i c) 1 i) 0 0))
/-- With its positions on its own semaphores. -/
def linear (c : Dev nD) : sProp 𝕄 :=
  iprop((bigSep Finset.univ fun k : Fin 29 => atPos ER (kcell (c, k)) 0 ∅ 0) ∗ payToks c)
/-- The credit a device starts with. -/
def credits (c : Dev nD) : sProp 𝕄 :=
  iprop(cred (tallyAt (barCell c) () 7) ∗ (each7 fun i => cred (tallyAt (recvCell c 0 i) () N)) ∗ (each7 fun i => cred (tallyAt (recvCell c 1 i) () N)))

def start (c : Dev nD) : sProp 𝕄 := iprop((∃ K, records m ρ K ∗ linear c) ∗ credits c ∗ levs)

def Φ₀ (c : Dev nD) : sProp 𝕄 := iprop(start m ρ c ∗ ∃ f : AccBuf F, ((c : Thread nD τ).loc cc0_scratch0) ↦{fullShare} f)
def Φ₁ (c : Dev nD) : sProp 𝕄 :=
  iprop((∃ f : AccBuf F, ((c : Thread nD τ).loc cc0_scratch0) ↦{fullShare} f) ∗ semVal (barCell c) 0
    ∗ (each7 fun i => semVal (sendCell c 0 i) 0) ∗ (each7 fun i => semVal (sendCell c 1 i) 0)
    ∗ (each7 fun i => semVal (recvCell c 0 i) 0) ∗ (each7 fun i => semVal (recvCell c 1 i) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => owed c allPays
    | ⟨_ + 1, _⟩ => 0

theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

/-- From the duties, the positions and the credit to what the body takes, partner by partner. -/
theorem hold_intro (c : Dev nD) : iprop(linear c ∗ credits c)
    ⊢ (iprop(each7 (BT c) ∗ BW c ∗ each7 (TX c 0) ∗ each7 (TX c 1) ∗ each7 (RX c 0) ∗ each7 (RX c 1)) : sProp 𝕄) := by
  have hT (h : Fin 2) : (each7 (TX c h) : sProp 𝕄) = iprop((each7 fun i => dutyTok ER (sendCell c h i) 0 0)
      ∗ (each7 fun i => dutyTok ER (recvCell (peer i c) h i) 0 0) ∗ (each7 fun i => atPos ER (sendCell c h i) 0 ∅ 0)) := by
    rw [← each7_sep, ← each7_sep]; rfl
  have hR (h : Fin 2) : (each7 (RX c h) : sProp 𝕄) = iprop((each7 fun i => cred (tallyAt (recvCell c h i) () N))
      ∗ (each7 fun i => atPos ER (recvCell c h i) 0 ∅ 0)) := by
    rw [← each7_sep]; rfl
  unfold linear payToks credits
  rw [cells_eq, hT, hT, hR, hR]
  simp only [kcell_send, kcell_recv]
  iintro ⟨⟨⟨Ab, As0, As1, Ar0, Ar1⟩, Tb, Ts0, Ts1, Tr0, Tr1⟩, Cb, C0, C1⟩
  isplitl [Tb]; · iexact Tb
  isplitl [Ab Cb]
  · unfold BW; isplitl [Cb]; · iexact Cb
    iexact Ab
  isplitl [Ts0 Tr0 As0]
  · isplitl [Ts0]; · iexact Ts0
    isplitl [Tr0] <;> iassumption
  isplitl [Ts1 Tr1 As1]
  · isplitl [Ts1]; · iexact Ts1
    isplitl [Tr1] <;> iassumption
  isplitl [C0 Ar0]
  · isplitl [C0] <;> iassumption
  isplitl [C1] <;> iassumption

/-- The own slots the partners' copies fill, sent along with the units. -/
theorem units_intro (c : Dev nD) (f : AccBuf F) :
    iprop(each7 (BT c) ∗ (each7 fun i => pt c 0 (dslot i) fullShare f) ∗ (each7 fun i => pt c 1 (dslot i) fullShare f)) ⊢ (each7 (SG c) : sProp 𝕄) := by
  have e (h : Fin 2) : (each7 (fun i => pt c h (dslot i) fullShare f) : sProp 𝕄) = each7 fun i => pt c h (dslot (inv i)) fullShare f := by
    rw [← each7_eq, ← each7_eq]
    exact bigSep_univ_equiv (⟨inv, inv, inv_inv, inv_inv⟩ : Fin 7 ≃ Fin 7) (fun i => (pt c h (dslot i) fullShare f : sProp 𝕄))
  rw [e, e, ← each7_sep, ← each7_sep]
  refine each7_mono fun i => ?_
  unfold SG
  iintro ⟨Ht, H0, H1⟩
  isplitl [Ht]; · iexact Ht
  iexists f
  isplitl [H0] <;> iassumption

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ c ∗ (dats m ρ 0 c).owesAt () t₀.succ ∗ stg c cc0_stg0_0 (xstg m ρ c) ∗ stg c cc0_stg1_0 (outAt m ρ c))

/-- The end of the body is what the pipeline takes back. -/
theorem done_post (c : Dev nD) : done m ρ c ⊢ bodyPost m ρ c := by
  unfold done bodyPost Φ₁ Dat.owesAt Pipeline.owesWithin OW xB
  rw [show (dats m ρ 0 c).owed t₀.succ = 0 from rfl]
  iintro ⟨⟨%W, HO⟩, Hb, Hs0, Hs1, Hr0, Hr1, S0, S1, X, O⟩
  isplitl [Hb Hs0 Hs1 Hr0 Hr1 S0 S1]
  · isplitl [S0 S1]
    · iapply (slots_join c); isplitl [S0] <;> iassumption
    isplitl [Hb]; · iexact Hb
    isplitl [Hs0]; · iexact Hs0
    isplitl [Hs1]; · iexact Hs1
    isplitl [Hr0] <;> iassumption
  isplitl [HO]
  · iexists W
    isplitr; · ipureintro; exact fun _ _ => Or.inl trivial
    iexact HO
  isplitl [X]
  · iexists _; isplitr; · (ipureintro; rfl)
    iexact X
  iexists (outAt m ρ c); isplitr; · (ipureintro; rfl)
  iapply (outP_elim c (resOf m ρ 0 c) (resOf m ρ 1 c)) $$ O

theorem sound_body (c : Dev nD) :
    bodyPre m ρ c ⊢ wpc c (cc0_body xM (Memref.isWhole_whole _) oM (Memref.isWhole_whole _) accM (Memref.isWhole_whole _) cc0_scratch1 cc0_scratch2) (fun _ => bodyPost m ρ c) := by
  unfold bodyPre Φ₀ start
  iintro ⟨⟨⟨⟨%K, #HR, Hl⟩, Hcr, #Hlev⟩, ⟨%f, Hscr⟩⟩, Ho, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = owed c allPays from rfl]
  ihave #Hc := (show iprop(records m ρ K ∗ levs) ⊢ ctx m ρ K from by unfold ctx; exact BI.Entails.refl _) $$ [HR Hlev]
  · isplitr; · iexact HR
    iexact Hlev
  ihave H := (hold_intro c) $$ [Hl Hcr]
  · isplitl [Hl] <;> iassumption
  icases H with ⟨Hb, HW, T0, T1, R0, R1⟩
  ihave Hs := (slots_split c f) $$ Hscr
  icases Hs with ⟨⟨S0, E0⟩, ⟨S1, E1⟩⟩
  ihave HG := (units_intro c f) $$ [Hb E0 E1]
  · isplitl [Hb]; · iexact Hb
    isplitl [E0] <;> iassumption
  ihave O := (outP_intro c g1) $$ Hout
  ihave HOW := (show (owes (c : Thread nD τ) (owed c allPays) W : sProp 𝕄) ⊢ OW c allPays from by
    unfold OW; iintro H; iexists W; iexact H) $$ HO
  ihave X := (show (((c : Thread nD τ).loc cc0_stg0_0) ↦{fullShare} (xstg m ρ c) : sProp 𝕄) ⊢ xB m ρ c from BI.Entails.refl _) $$ Hx
  iapply (whole_parts m ρ K c) $$ Hc HOW HG HW T0 T1 R0 R1 X S0 S1 O
  iintro H
  iapply (done_post m ρ c) $$ H

/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wpc c (cc0_body xM (Memref.isWhole_whole _) oM (Memref.isWhole_whole _) accM (Memref.isWhole_whole _) cc0_scratch1 cc0_scratch2) (fun _ => bodyPost m ρ c)
  exact sound_body m ρ c

end Cert.KernelProof

end
-- ==== Proof.Run.lean ====
/-
# The run

How the launch's tokens, semaphores and credit are dealt to the devices, and the run of the whole program.
-/
module

public import proofs.«01_k».proof.Proof.Obligation
public import Idealize.ShloMosaic.Lib.Pipeline.CollectiveSegs

@[expose] public section

set_option maxRecDepth 20000

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide +kernel
theorem share_eq (c : Dev nD) (w : Fin cfg0.W) : (dats m ρ 0 c).share w = fullShare := by unfold Dat.share; split <;> rfl

/-! ## Cells and tokens -/

theorem csem_inj : ∀ k k' : Fin 29, csem k = csem k' → k = k' := by decide +kernel
theorem kcell_inj : Function.Injective (kcell : Dev nD × Fin 29 → GSem nD τ sig) := by
  rintro ⟨c, k⟩ ⟨c', k'⟩ h
  have h1 : c = c' := congrArg (fun g : GSem nD τ sig => g.1.1) h
  have h2 : k = k' := csem_inj k k' (congrArg Prod.snd h)
  rw [h1, h2]
def allCells : Finset (GSem nD τ sig) := Finset.univ.map ⟨kcell, kcell_inj⟩

/-- The semaphore of a duty: for each partner the barrier's, the two halves' send and the two halves' receive ones. -/
def dutySem (i : Fin 7) : Fin 5 → SemLoc sig
  | 0 => .reg barS
  | 1 => .dma (sendQ 0 i)
  | 2 => .dma (sendQ 1 i)
  | 3 => .dma (recvQ 0 i)
  | 4 => .dma (recvQ 1 i)
def dutyNo (i : Fin 7) : Fin 5 → Fin 7
  | 0 => i
  | 1 => 0
  | 2 => 0
  | 3 => 0
  | 4 => 0
theorem duty_inj : ∀ (i i' : Fin 7) (j j' : Fin 5), dutySem i j = dutySem i' j' → dutyNo i j = dutyNo i' j' → i = i' ∧ j = j' := by decide +kernel

def tokOf (x : Dev nD × Fin 7 × Fin 5) : GSem nD τ sig × ℕ × Fin 7 :=
  (((x.1 : Thread nD τ), dutySem x.2.1 x.2.2), 0, dutyNo x.2.1 x.2.2)
theorem tokOf_inj : Function.Injective tokOf := by
  rintro ⟨c, i, j⟩ ⟨c', i', j'⟩ h
  have h1 : c = c' := congrArg (fun x : GSem nD τ sig × ℕ × Fin 7 => x.1.1.1) h
  obtain ⟨h2, h3⟩ := duty_inj i i' j j' (congrArg (fun x : GSem nD τ sig × ℕ × Fin 7 => x.1.2) h)
    (congrArg (fun x : GSem nD τ sig × ℕ × Fin 7 => x.2.2) h)
  rw [h1, h2, h3]
def allToks : Finset (GSem nD τ sig × ℕ × Fin 7) := Finset.univ.map ⟨tokOf, tokOf_inj⟩

def u₀ : UU :=
  (initOf (Pipeline.cells cfgs cellOf_inj) (Pipeline.launchToks cfgs cellOf_inj), initOf allCells allToks)

/-- The duties of device `c`'s own cells. -/
def toks (c : Dev nD) : sProp 𝕄 :=
  iprop((bigSep Finset.univ fun i : Fin 7 => dutyTok ER (barCell c) 0 i)
    ∗ (bigSep Finset.univ fun i : Fin 7 => dutyTok ER (sendCell c 0 i) 0 0) ∗ (bigSep Finset.univ fun i : Fin 7 => dutyTok ER (sendCell c 1 i) 0 0)
    ∗ (bigSep Finset.univ fun i : Fin 7 => dutyTok ER (recvCell c 0 i) 0 0) ∗ (bigSep Finset.univ fun i : Fin 7 => dutyTok ER (recvCell c 1 i) 0 0))

/-- What the launch's ghost state deals device `c`. -/
def G (c : Dev nD) : sProp 𝕄 :=
  iprop((bigSep Finset.univ fun k : Fin 29 => roundState ER (rd m ρ) (kcell (c, k)) 0)
    ∗ (bigSep Finset.univ fun k : Fin 29 => iprop(atPos ER (kcell (c, k)) 0 ∅ 0 ∗ reached ER (kcell (c, k)) 0)) ∗ toks c)
/-- What the global step makes of it. -/
def G' (c : Dev nD) : sProp 𝕄 := iprop(∃ K, records m ρ K ∗ linear c)

theorem toks_eq (c : Dev nD) : (bigSep Finset.univ fun x : Fin 7 × Fin 5 => (dutyTok ER (tokOf (c, x)).1 (tokOf (c, x)).2.1 (tokOf (c, x)).2.2 : sProp 𝕄)) = toks c := by
  unfold toks
  rw [bigSep_univ_prod, ← bigSep_sep', ← bigSep_sep', ← bigSep_sep', ← bigSep_sep']
  refine bigSep_congr fun i _ => ?_
  rw [bigSep_univ_eq_bigSepL [(0 : Fin 5), 1, 2, 3, 4] (by decide) (by decide)]
  simp only [bigSepL_cons_cons, bigSepL_singleton]
  rfl

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 29 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (rd m ρ) allCells allToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores in four families of seven. -/
theorem ownSems0_eq (c : Dev nD) : (Pipeline.ownSems0 (Ix := Unit) (Name := ℕ) (U := UU) (Lvl := ℕ) (Val := Elt F) (τ := τ) osem c : sProp 𝕄)
    = iprop((each7 fun i => semVal (sendCell c 0 i) 0) ∗ (each7 fun i => semVal (sendCell c 1 i) 0)
        ∗ (each7 fun i => semVal (recvCell c 0 i) 0) ∗ each7 fun i => semVal (recvCell c 1 i) 0) := by
  rw [Pipeline.ownSems0_eq_of_list c osem ([0, 1, 2, 3, 4, 5, 6] ++ ([7, 8, 9, 10, 11, 12, 13] ++ ([14, 15, 16, 17, 18, 19, 20]
    ++ [21, 22, 23, 24, 25, 26, 27]))) (by decide +kernel) (by decide +kernel), bigSepL_append, bigSepL_append, bigSepL_append]
  rfl
/-- The barrier's is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 29 => semVal (kcell (c, k)) 0 : sProp 𝕄) := by
  rw [ownSems0_eq, unscopedSems0_eq, cells_eq]
  simp only [kcell_send, kcell_recv]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 29 => semVal (kcell (c, k)) 0) ∗ bigSep Finset.univ fun k : Fin 29 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- From whose cells to who pays: partner by partner. -/
def backEquiv : Dev nD × Fin 7 ≃ Dev nD × Fin 7 :=
  ⟨fun x => (peer x.2 x.1, inv x.2), fun x => (peer x.2 x.1, inv x.2), fun x => Prod.ext (peer_inv x.2 x.1) (inv_inv x.2),
    fun x => Prod.ext (peer_inv x.2 x.1) (inv_inv x.2)⟩

theorem bars_around : (bigSep Finset.univ fun c : Dev nD => bigSep Finset.univ fun i : Fin 7 => (dutyTok ER (barCell c) 0 i : sProp 𝕄))
    = bigSep Finset.univ fun c : Dev nD => each7 fun i => dutyTok ER (barCell (peer i c)) 0 (inv i) := by
  rw [← bigSep_univ_prod (fun x : Dev nD × Fin 7 => (dutyTok ER (barCell x.1) 0 x.2 : sProp 𝕄)),
    bigSep_univ_equiv backEquiv (fun x : Dev nD × Fin 7 => (dutyTok ER (barCell x.1) 0 x.2 : sProp 𝕄)), bigSep_univ_prod]
  exact bigSep_congr fun c _ => each7_eq _

/-- A family over devices and partners, moved along every partner. -/
theorem around (Φ : Fin 7 → Dev nD → sProp 𝕄) : (bigSep Finset.univ fun c : Dev nD => bigSep Finset.univ fun i : Fin 7 => Φ i c)
    = bigSep Finset.univ fun c : Dev nD => each7 fun i => Φ i (peer i c) := by
  let e : Dev nD × Fin 7 ≃ Dev nD × Fin 7 :=
    ⟨fun x => (peer x.2 x.1, x.2), fun x => (peer (inv x.2) x.1, x.2), fun x => Prod.ext (peer_inv x.2 x.1) rfl, fun x => Prod.ext (peer_inv' x.2 x.1) rfl⟩
  rw [← bigSep_univ_prod (fun x : Dev nD × Fin 7 => Φ x.2 x.1), bigSep_univ_equiv e (fun x : Dev nD × Fin 7 => Φ x.2 x.1), bigSep_univ_prod]
  exact bigSep_congr fun c _ => each7_eq _

theorem toks_around : (bigSep Finset.univ fun c : Dev nD => (toks c : sProp 𝕄)) = bigSep Finset.univ fun c : Dev nD => payToks c := by
  unfold toks payToks
  simp only [bigSep_sep']
  rw [bars_around, around (fun i c => dutyTok ER (recvCell c 0 i) 0 0), around (fun i c => dutyTok ER (recvCell c 1 i) 0 0)]
  simp only [each7_eq]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 29 => iprop(∃ κ : ℕ, cellInv ER (rd m ρ) κ (kcell ck))),
    bigSep_congr (s := Finset.univ) (fun (c : Dev nD) _ => bigSep_sep' Finset.univ (fun k : Fin 29 => (atPos ER (kcell (c, k)) 0 ∅ 0 : sProp 𝕄)) (fun k => reached ER (kcell (c, k)) 0)),
    bigSep_sep', ← bigSep_univ_prod (fun ck : Dev nD × Fin 29 => (reached ER (kcell ck) 0 : sProp 𝕄)), toks_around]
  iintro ⟨HI, ⟨Hat, #HR⟩, Htok⟩
  ihave HK := (BI.bigSep_exists_pi Finset.univ (fun (ck : Dev nD × Fin 29) (κ : ℕ) => (cellInv ER (rd m ρ) κ (kcell ck) : sProp 𝕄))) $$ HI
  icases HK with ⟨%K, #HI⟩
  iapply (with_persistent (R := records m ρ K) (Φ := linear) fun c _ => show iprop(records m ρ K ∗ linear c) ⊢ G' m ρ c from by
    unfold G'; iintro H; iexists K; iexact H)
  isplitr
  · unfold records; isplitl; · iexact HI
    iexact HR
  · unfold linear
    rw [bigSep_sep']
    isplitl [Hat] <;> iassumption

/-- The global step: all devices' semaphores and ghost state at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit -/

/-- Where a payment goes, and on which semaphore. -/
def Pay.to : Pay → Fin 7
  | .unit i => i
  | .copy _ i => i
def Pay.sem : Pay → SemLoc sig
  | .unit _ => .reg barS
  | .copy h i => .dma (recvQ h i)
theorem cell_split (d : Dev nD) (x : Pay) : x.cell d = ((peer x.to d : Thread nD τ), x.sem) := by cases x <;> rfl

/-- A payment's credit, on the cell of device `c` it is owed to. -/
def credit (c : Dev nD) (x : Pay) : sProp 𝕄 := cred (tallyAt ((c : Thread nD τ), x.sem) () x.amt)
theorem credit_unit (c : Dev nD) (i : Fin 7) : (credit c (.unit i) : sProp 𝕄) = cred (tallyAt (barCell c) () 1) := rfl
theorem credit_copy (c : Dev nD) (h : Fin 2) (i : Fin 7) : (credit c (.copy h i) : sProp 𝕄) = cred (tallyAt (recvCell c h i) () N) := rfl

theorem launch_one (c : Dev nD) (x : Pay) :
    (Pipeline.launchCred (fun d => tallyAt (x.cell d) () x.amt) c : sProp 𝕄) ⊢ credit c x := by
  refine (Pipeline.launchCred_elim _ c x.sem).trans (Entails.of_eq ?_)
  unfold credit tallyAt
  refine congrArg cred (congrArg _ (Finsupp.ext fun u => ?_))
  cases u
  rw [Pipeline.launchCredit_owing, Finsupp.single_eq_same, Finset.sum_eq_single (peer (inv x.to) c)]
  · show tallyAt (x.cell (peer (inv x.to) c)) () x.amt _ () = _
    rw [tallyAt_apply, cell_split, peer_inv', if_pos ⟨rfl, rfl⟩]
  · intro d _ hd
    show tallyAt (x.cell d) () x.amt _ () = _
    rw [tallyAt_apply, cell_split, if_neg]
    rintro ⟨h, -⟩
    have h1 : c = peer x.to d := congrArg (fun g : GSem nD τ sig => g.1.1) h
    exact hd (by rw [h1, peer_inv])
  · intro h; exact absurd (Finset.mem_univ _) h

theorem launch_list (c : Dev nD) : ∀ l : List Pay, (Pipeline.launchCred (fun d => owed d l) c : sProp 𝕄) ⊢ bigSepL l (credit c)
  | [] => by iintro -; iempintro
  | x :: l => by
    show Pipeline.launchCred (fun d => owed d l + tallyAt (x.cell d) () x.amt) c ⊢ _
    rw [Pipeline.launchCred_add (fun d => owed d l) (fun d => tallyAt (x.cell d) () x.amt), bigSepL_cons']
    iintro ⟨H1, H2⟩
    isplitl [H2]
    · iapply (launch_one c x) $$ H2
    iapply (launch_list c l) $$ H1

theorem cred_two (a b : CellTallies nD τ sig Unit) : (iprop(cred a ∗ cred b) : sProp 𝕄) ⊢ cred (a + b) := (cred_add a b).2

theorem bar_credit (c : Dev nD) :
    (credit c (.unit 0) : sProp 𝕄) ⊢ iprop(credit c (.unit 1) -∗ credit c (.unit 2) -∗ credit c (.unit 3) -∗ credit c (.unit 4)
      -∗ credit c (.unit 5) -∗ credit c (.unit 6) -∗ cred (tallyAt (barCell c) () 7)) := by
  have e (k : ℕ) (i : Fin 7) : iprop(cred (tallyAt (barCell c) () k) ∗ credit c (.unit i)) ⊢ (cred (tallyAt (barCell c) () (k + 1)) : sProp 𝕄) := by
    rw [← tallyAt_add]; exact cred_two _ _
  simp only [credit_unit] at e ⊢
  iintro H0 H1 H2 H3 H4 H5 H6
  ihave H := (e 1 1) $$ [H0 H1]
  · isplitl [H0]; · iexact H0
    iexact H1
  ihave H := (e 2 2) $$ [H H2]
  · isplitl [H]; · iexact H
    iexact H2
  ihave H := (e 3 3) $$ [H H3]
  · isplitl [H]; · iexact H
    iexact H3
  ihave H := (e 4 4) $$ [H H4]
  · isplitl [H]; · iexact H
    iexact H4
  ihave H := (e 5 5) $$ [H H5]
  · isplitl [H]; · iexact H
    iexact H5
  ihave H := (e 6 6) $$ [H H6]
  · isplitl [H]; · iexact H
    iexact H6
  iexact H

theorem creds (c : Dev nD) : (Pipeline.launchCred (fun d => owed d allPays) c : sProp 𝕄) ⊢ credits c := by
  refine (launch_list c allPays).trans ?_
  show iprop(credit c (.unit 0) ∗ credit c (.unit 1) ∗ credit c (.unit 2) ∗ credit c (.unit 3) ∗ credit c (.unit 4) ∗ credit c (.unit 5) ∗ credit c (.unit 6) ∗ credit c (.copy 0 0) ∗ credit c (.copy 1 0) ∗ credit c (.copy 0 1) ∗ credit c (.copy 0 2) ∗ credit c (.copy 0 3) ∗ credit c (.copy 1 1) ∗ credit c (.copy 1 2) ∗ credit c (.copy 1 3) ∗ credit c (.copy 0 4) ∗ credit c (.copy 0 5) ∗ credit c (.copy 0 6) ∗ credit c (.copy 1 4) ∗ credit c (.copy 1 5) ∗ credit c (.copy 1 6)) ⊢ _
  simp only [credit_copy]
  unfold credits each7
  iintro ⟨U0, U1, U2, U3, U4, U5, U6, C00, C10, C01, C02, C03, C11, C12, C13, C04, C05, C06, C14, C15, C16⟩
  isplitl [U0 U1 U2 U3 U4 U5 U6]
  · iapply (bar_credit c) $$ U0 U1 U2 U3 U4 U5 U6
  isplitl [C00 C01 C02 C03 C04 C05 C06]
  · isplitl [C00]; · iexact C00
    isplitl [C01]; · iexact C01
    isplitl [C02]; · iexact C02
    isplitl [C03]; · iexact C03
    isplitl [C04]; · iexact C04
    isplitl [C05]; · iexact C05
    iexact C06
  isplitl [C10]; · iexact C10
  isplitl [C11]; · iexact C11
  isplitl [C12]; · iexact C12
  isplitl [C13]; · iexact C13
  isplitl [C14]; · iexact C14
  isplitl [C15]; · iexact C15
  iexact C16

/-! ## The side conditions -/

theorem start_intro (c : Dev nD) :
    iprop(Pipeline.unscopedRestP Pipeline.Prefetch.none cfg0.spec c (fun b => m ((c : Thread nD τ).loc b)) ∗ levAts L lv
        ∗ Pipeline.launchCred (fun d => owed d allPays) c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G' levs
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hr, HB, Hs⟩
  isplitl [HB]; · iexact HB
  isplitl [Hs] <;> iassumption

/-- The staging semaphores come first in the order. -/
theorem stage_first : ∀ (w : Fin 2) (s : Fin (spec0 w).nbuf), rankOf (.dma ((spec0 w).sem s)) = 0 := by decide +kernel

theorem waits (c : Dev nD) : (levAts L lv : sProp 𝕄) ⊢ Pipeline.cellsWaits cfgs (dats m ρ) () 0 c :=
  Pipeline.cellsWaits_intro cfgs (dats m ρ) () 0 c fun w s t => by
    have h : ∀ l : List Pay, (levAts L lv : sProp 𝕄) ⊢ MayWait (c : Thread nD τ) (.dma ((spec0 w).sem s)) () (owed c l) := fun l =>
      mayWait c _ l fun x _ => by rw [stage_first w s]; exact rank_pos x
    rcases t with ⟨_ | _, ht⟩
    · exact h allPays
    · exact h []

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- On the 32 devices, for any float values and from any memory with the counters at zero: every fair execution ends, with
    each device's arrays at the contents `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owed d allPays) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelProof

end
-- ==== Proof.Frames.lean ====
/-
# What the run leaves

The result array after the run, and the frame claims of the three programs.
-/
module

public import proofs.«01_k».proof.Proof.Run
public import proofs.«01_k».proof.Defs
public import proofs.«01_k».proof.Proof.Gen.Kernel
public import proofs.«01_k».proof.Proof.Gen.ReferenceIdeal.Run
public import proofs.«01_k».proof.Proof.Gen.Pre_finite_KernelIdeal
public import proofs.«01_k».proof.Proof.Gen.Pre_finite_ReferenceIdeal
public import Idealize.ShloMosaic.Lib.Pipeline.Value
public import Idealize.ShloMosaic.Adequacy
public import Idealize.ShloMosaic.Init

@[expose] public section

set_option maxRecDepth 20000

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A window's one block is its whole array: reading through it gives the array. -/
theorem blk_in (t : Fin cfg0.N) (X : (main_arg0 : Ref sig .tc).ty.Contents (Elt F)) : (win0_0.blk t).view.read (Elt F) X = X := by
  rw [fin_N t]
  exact Memref.read_access_unit_zero (Elt F) main_arg0 (funext fun a => by fin_cases a <;> rfl) _ X
theorem blk_out (t : Fin cfg0.N) (X : (main_v1 : Ref sig .tc).ty.Contents (Elt F)) : ((cfg0.win 1).blk t).view.read (Elt F) X = X := by
  rw [fin_N t]
  exact Memref.read_access_unit_zero (Elt F) main_v1 (funext fun a => by fin_cases a <;> rfl) _ X

/-- The staged block is the device's argument. -/
theorem xstg_eq (c : Dev nD) : xstg m ρ c = m ((c : Thread nD τ).loc main_arg0) := blk_in t₀ _

/-- The one write-back covers the result array. -/
theorem covered (i : S2048x1024.Idx) : ∃ t : Fin cfg0.N, (cfg0.win 1).flush t = true ∧ i ∈ ((cfg0.win 1).blk t).view.set := by
  refine ⟨t₀, rfl, ?_⟩
  show i ∈ ((View.whole main_v1).slice (win0_1.rect t₀)).set
  have e0 : win0_1.index t₀ 0 * win0_1.size 0 = 0 ∧ win0_1.xsize (grid0.coords t₀) 0 = 2048 := by decide +kernel
  have e1 : win0_1.index t₀ 1 * win0_1.size 1 = 0 ∧ win0_1.xsize (grid0.coords t₀) 1 = 1024 := by decide +kernel
  rw [View.set_slice_whole, Rect.mem_set_unit]
  intro a
  match a with
  | ⟨0, _⟩ =>
    show win0_1.index t₀ 0 * win0_1.size 0 ≤ (i 0).val ∧ (i 0).val < win0_1.index t₀ 0 * win0_1.size 0 + win0_1.xsize (grid0.coords t₀) 0
    rw [e0.1, e0.2]; exact ⟨Nat.zero_le _, by rw [Nat.zero_add]; exact (i 0).isLt⟩
  | ⟨1, _⟩ =>
    show win0_1.index t₀ 1 * win0_1.size 1 ≤ (i 1).val ∧ (i 1).val < win0_1.index t₀ 1 * win0_1.size 1 + win0_1.xsize (grid0.coords t₀) 1
    rw [e1.1, e1.2]; exact ⟨Nat.zero_le _, by rw [Nat.zero_add]; exact (i 1).isLt⟩

/-- The result's array after the run holds the device's result. -/
theorem finalA_out (c : Dev nD) : finalA m ρ c (1 : Fin 2) = outAt m ρ c :=
  (dats (F := F) m ρ 0 c).arrAt_eq_of_cover (1 : Fin 2) (outAt m ρ c) (fun t _ => (show (dats m ρ 0 c).flushed (1 : Fin 2) t = outAt m ρ c from rfl).trans (blk_out t _).symm) covered

/-- The run: each device's result array ends at its result, its argument as it was, and every counter at zero. -/
theorem run_out : θ_run defs (onTc (τ := τ) (main (F := F))) ⟨m, fun _ => 0, ρ⟩ (fun r =>
    (∀ c : Dev nD, r.2.mem ((c : Thread nD τ).loc main_v1) = outAt m ρ c ∧ r.2.mem ((c : Thread nD τ).loc main_arg0) = m ((c : Thread nD τ).loc main_arg0))
      ∧ r.2.sem = fun _ => 0) :=
  (θ_run defs _ _).mono (fun r h => ⟨fun c => ⟨(h.1 c (1 : Fin 2)).trans (finalA_out m ρ c), (h.1 c (0 : Fin 2)).trans (finalA_x m ρ c)⟩, h.2⟩) (run_main m ρ)

/-- For any float values: every execution ends, the argument unchanged and every counter at zero. -/
theorem frame_any : θ_run defs (onTc (τ := τ) (main (F := F))) ⟨m, fun _ => 0, ρ⟩ (fun r =>
    (∀ c : Dev nD, r.2.mem ((c : Thread nD τ).loc main_arg0) = m ((c : Thread nD τ).loc main_arg0)) ∧ r.2.sem = fun _ => 0) :=
  (θ_run defs _ _).mono (fun r h => ⟨fun c => (h.1 c).2, h.2⟩) (run_out m ρ)

/-- The kernel and its idealization are one text, so over bit patterns they are one program. -/
theorem table_same : Cert.Kernel.defs₀ (F := Bits) = Cert.KernelIdeal.defs₀ (F := Bits) := by
  refine congrArg Defs.onTc (funext fun ℓ => funext fun x => ?_)
  fin_cases ℓ
  rfl
theorem defs_same : Cert.Kernel.defs (F := Bits) = Cert.KernelIdeal.defs (F := Bits) :=
  congrArg (Pipeline.defs (Cert.KernelIdeal.pcfgs (F := Bits))) table_same

/-- The kernel over bit patterns ends, its argument unchanged and its counters at zero. -/
theorem frame_kernel : Cert.quiescent_Kernel := by
  intro m ρ _
  rw [defs_same]
  exact frame_any (F := Bits) m ρ
/-- So does its idealization. -/
theorem frame_ideal : Cert.quiescent_KernelIdeal := fun m ρ _ => frame_any (F := Ideal) m ρ
/-- And so does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KernelProof

end
-- ==== Proof.Value.lean ====
/-
# The kernel and the reference agree

On finite arguments both results are, at each entry, the exponential of the argument's entry over the sum of the
exponentials along its row.
-/
module

public import proofs.«01_k».proof.Proof.Softmax
public import proofs.«01_k».proof.Proof.Frames
public import Idealize.ShloMosaic.Lib.Layout

@[expose] public section

set_option maxRecDepth 20000

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! ## Finite arguments -/

theorem plus_inf : Ideal.ofBits .f32 0x7F800000#32 = ⊤ := by simp [Ideal.ofBits, Ideal.ieee]

theorem all_ones {ι : Type} [DecidableEq ι] (s : Finset ι) (f : ι → BitVec 1) (h : s.fold IntOp.andi 1#1 f = 1#1) : ∀ i ∈ s, f i = 1#1 := by
  induction s using Finset.induction_on with
  | empty => exact fun i hi => absurd hi (Finset.notMem_empty i)
  | insert a s ha ih =>
    rw [Finset.fold_insert ha] at h
    have h2 : ∀ p q : BitVec 1, IntOp.andi p q = 1#1 → p = 1#1 ∧ q = 1#1 := by decide
    obtain ⟨h0, h1⟩ := h2 _ _ h
    intro i hi
    rcases Finset.mem_insert.mp hi with rfl | hi
    · exact h0
    · exact ih h1 i hi

/-- Where the precondition holds of a block, each of its entries is a real number. -/
theorem entry_real (x : FVec Ideal S2048x1024 .f32) (h : Cert.Pre_finite_KernelIdeal.fn (F := Ideal) x = fun _ => 1#1) (i : S2048x1024.Idx) :
    ∃ g : ℝ, x i = (g : EReal) := by
  have h0 := congrFun h ix0
  unfold Cert.Pre_finite_KernelIdeal.fn at h0
  dsimp only at h0
  rw [Host.reduce_eq_fold] at h0
  have h1 := all_ones _ _ h0 i (Finset.mem_filter.mpr ⟨Finset.mem_univ _, funext fun a => a.elim0⟩)
  have h2 : ∀ p q : BitVec 1, IntOp.andi p q = 1#1 → p = 1#1 ∧ q = 1#1 := by decide
  obtain ⟨ha, hb⟩ := h2 _ _ h1
  have ea : Ideal.cmp .ogt (x i) (Ideal.ofBits .f32 0xFF800000#32) = 1#1 := ha
  have eb : Ideal.cmp .olt (x i) (Ideal.ofBits .f32 0x7F800000#32) = 1#1 := hb
  rw [minus_inf] at ea
  rw [plus_inf] at eb
  have na : (x i : EReal) ≠ ⊥ := by rintro e; rw [e] at ea; simp [Ideal.cmp] at ea
  have nb : (x i : EReal) ≠ ⊤ := by rintro e; rw [e] at eb; simp [Ideal.cmp] at eb
  exact ⟨(x i : EReal).toReal, (EReal.coe_toReal nb na).symm⟩

/-! ## The kernel's result -/

variable (m : (ℓ : Loc nD τ sig) → Buf (Elt Ideal) ℓ) (ρ : Dev nD → PrngReg)

/-- Row `r` of half `h` in a block. -/
def inHalf (h : Fin 2) (r : Fin 1024) : Fin 2048 := ⟨1024 * h.val + r.val, by have := h.isLt; have := r.isLt; omega⟩

theorem half_entry (h : Fin 2) (c : Dev nD) (r k : Fin 1024) :
    xh m ρ h c (ix2 r k) = (m ((c : Thread nD τ).loc main_arg0) : FVec Ideal S2048x1024 .f32) (ix2 (inHalf h r) k) := by
  rw [← xstg_eq m ρ c]
  match h with
  | 0 =>
    show (xstg m ρ c : FVec Ideal S2048x1024 .f32) _ = _
    refine congrArg (xstg m ρ c : FVec Ideal S2048x1024 .f32) (funext fun a => Fin.ext ?_)
    match a with
    | ⟨0, _⟩ => show 0 + 1 * r.val = 1024 * 0 + r.val; omega
    | ⟨1, _⟩ => show 0 + 1 * k.val = k.val; omega
  | 1 =>
    show (xstg m ρ c : FVec Ideal S2048x1024 .f32) _ = _
    refine congrArg (xstg m ρ c : FVec Ideal S2048x1024 .f32) (funext fun a => Fin.ext ?_)
    match a with
    | ⟨0, _⟩ => show 1024 + 1 * r.val = 1024 * 1 + r.val; omega
    | ⟨1, _⟩ => show 0 + 1 * k.val = k.val; omega

theorem out_half (c : Dev nD) (h : Fin 2) (r k : Fin 1024) :
    (outAt m ρ c : FVec Ideal S2048x1024 .bf16) (ix2 (inHalf h r) k) = resOf m ρ h c (ix2 r k) := by
  unfold outAt glue
  match h with
  | 0 =>
    have hr : (inHalf 0 r).val < 1024 := by have := r.isLt; show 1024 * 0 + r.val < 1024; omega
    refine (dif_pos hr).trans (congrArg (resOf m ρ 0 c) (funext fun a => Fin.ext ?_))
    match a with
    | ⟨0, _⟩ => show 1024 * 0 + r.val = r.val; omega
    | ⟨1, _⟩ => rfl
  | 1 =>
    have hr : ¬ (inHalf 1 r).val < 1024 := by show ¬ 1024 * 1 + r.val < 1024; omega
    refine (dif_neg hr).trans (congrArg (resOf m ρ 1 c) (funext fun a => Fin.ext ?_))
    match a with
    | ⟨0, _⟩ => show 1024 * 1 + r.val - 1024 = r.val; omega
    | ⟨1, _⟩ => rfl

theorem in_half (q : Fin 2048) : ∃ h r, inHalf h r = q := by
  have := q.isLt
  refine ⟨⟨q.val / 1024, by omega⟩, ⟨q.val % 1024, Nat.mod_lt _ (by decide)⟩, Fin.ext ?_⟩
  show 1024 * (q.val / 1024) + q.val % 1024 = q.val
  omega

/-- Each entry of a device's result, where the arguments are real numbers `g`. -/
theorem out_at (g : Dev nD → Fin 2048 → Fin 1024 → ℝ)
    (hx : ∀ d q k, (m ((d : Thread nD τ).loc main_arg0) : FVec Ideal S2048x1024 .f32) (ix2 q k) = (g d q k : EReal)) (c : Dev nD) (q : Fin 2048) (k : Fin 1024) :
    (outAt m ρ c : FVec Ideal S2048x1024 .bf16) (ix2 q k) = ((Real.exp (g c q k) / ∑ d, ∑ k, Real.exp (g d q k) : ℝ) : EReal) := by
  obtain ⟨h, r, rfl⟩ := in_half q
  rw [out_half]
  exact res_at m ρ h r (fun d => g d (inHalf h r)) (fun d k => (half_entry m ρ h d r k).trans (hx d _ k)) c k

/-! ## The reference's result -/

abbrev SW : Shape := ⟨2, ![2048, 32768]⟩
abbrev SC : Shape := ⟨1, ![2048]⟩
abbrev SD : Shape := ⟨2, ![2048, 1]⟩

theorem along_row : SW.Reduces [1] SC := by decide

theorem lift_wide (q : Fin 2048) (j : Fin 32768) : along_row.lift (ix1 q) j = ix2 q j := by
  funext a
  apply Fin.ext
  match a with
  | ⟨0, _⟩ => rfl
  | ⟨1, _⟩ => rfl

theorem widen_at {α : Type} (b1 : SC.BroadcastsInDim SD ![0]) (b2 : SD.BroadcastsInDim SW ![0, 1]) (y : SC.Idx → α) (q : Fin 2048) (j : Fin 32768) :
    broadcastInDim SW ![0, 1] b2 (broadcastInDim SD ![0] b1 y) (ix2 q j) = y (ix1 q) := by
  rw [broadcastInDim_apply _ b2 _ _ (ix2 q 0 : SD.Idx) (fun a => by match a with
    | ⟨0, _⟩ => rfl
    | ⟨1, _⟩ => rfl)]
  exact broadcastInDim_apply _ b1 _ _ (ix1 q) (fun a => by match a with
    | ⟨0, _⟩ => rfl)

/-- A row's maximum and its sum. -/
theorem wide_max (x : FVec Ideal SW .f32) (h' : SW.ReducesTo [1] SC) (hu : 0 < (⟨0, ![]⟩ : Shape).numel) (q : Fin 2048) :
    Host.reduce FloatOps.maximumf x (constant ⟨0, ![]⟩ .f32 0xFF800000#32) h' hu (ix1 q)
      = (Finset.univ : Finset (Fin 32768)).fold max ⊥ fun j => (x (ix2 q j) : EReal) := by
  refine (Host.reduce_eq_fold_single FloatOps.maximumf x _ h' along_row hu (ix1 q)).trans ?_
  have e : (x ∘ along_row.lift (ix1 q)) = fun j : Fin 32768 => x (ix2 q j) :=
    funext fun (j : Fin 32768) => congrArg x (lift_wide q j)
  exact congrArg₂ (fun z f => (Finset.univ : Finset (Fin 32768)).fold max z f) minus_inf e

theorem wide_sum (x : FVec Ideal SW .f32) (h' : SW.ReducesTo [1] SC) (hu : 0 < (⟨0, ![]⟩ : Shape).numel) (q : Fin 2048) :
    Host.reduceAdd x (constant ⟨0, ![]⟩ .f32 0x00000000#32) h' hu (ix1 q) = ∑ j : Fin 32768, (x (ix2 q j) : EReal) := by
  rw [hostReduceAdd_apply, Ideal.hostReduceAdd_single h' along_row]
  have e : (constant (F := Ideal) ⟨0, ![]⟩ .f32 0x00000000#32 (Shape.Idx.first hu) : EReal) = 0 := Ideal.ofBits_zero_f32
  refine (congrArg₂ (fun a b : EReal => a + b) e rfl).trans ((zero_add _).trans ?_)
  exact Finset.sum_congr rfl fun (j : Fin 32768) _ => congrArg x (lift_wide q j)

/-- The reference's function of its argument. -/
def softmax (h' : SW.ReducesTo [1] SC) (hu : 0 < (⟨0, ![]⟩ : Shape).numel) (b1 : SC.BroadcastsInDim SD ![0]) (b2 : SD.BroadcastsInDim SW ![0, 1])
    (hb : FTy.bits .bf16 < FTy.bits .f32) (x : FVec Ideal SW .f32) : FVec Ideal SW .bf16 :=
  truncf .bf16 (Host.divf (Host.exp (subf x (broadcastInDim SW ![0, 1] b2 (broadcastInDim SD ![0] b1
      (Host.reduce FloatOps.maximumf x (constant ⟨0, ![]⟩ .f32 0xFF800000#32) h' hu)))))
    (broadcastInDim SW ![0, 1] b2 (broadcastInDim SD ![0] b1
      (Host.reduceAdd (Host.exp (subf x (broadcastInDim SW ![0, 1] b2 (broadcastInDim SD ![0] b1
        (Host.reduce FloatOps.maximumf x (constant ⟨0, ![]⟩ .f32 0xFF800000#32) h' hu))))) (constant ⟨0, ![]⟩ .f32 0x00000000#32) h' hu)))) hb

/-- Each entry of the reference's result, where the argument is real numbers `g`. -/
theorem softmax_at (h' : SW.ReducesTo [1] SC) (hu : 0 < (⟨0, ![]⟩ : Shape).numel) (b1 : SC.BroadcastsInDim SD ![0]) (b2 : SD.BroadcastsInDim SW ![0, 1])
    (hb : FTy.bits .bf16 < FTy.bits .f32) (x : FVec Ideal SW .f32) (g : Fin 2048 → Fin 32768 → ℝ) (hx : ∀ q j, x (ix2 q j) = (g q j : EReal))
    (q : Fin 2048) (j : Fin 32768) : softmax h' hu b1 b2 hb x (ix2 q j) = ((Real.exp (g q j) / ∑ j, Real.exp (g q j) : ℝ) : EReal) := by
  obtain ⟨R, hR⟩ := greatest_real (by decide : 0 < 32768) (fun j => (x (ix2 q j) : EReal)) (g q) (hx q)
  unfold softmax
  generalize hE : (Host.exp (subf x (broadcastInDim SW ![0, 1] b2 (broadcastInDim SD ![0] b1
    (Host.reduce FloatOps.maximumf x (constant ⟨0, ![]⟩ .f32 0xFF800000#32) h' hu)))) : FVec Ideal SW .f32) = E
  have e (j : Fin 32768) : E (ix2 q j) = ((Real.exp (g q j - R) : ℝ) : EReal) := by
    rw [← hE, ← exp_below, ← hx q j, ← hR, ← wide_max x h' hu q]
    exact congrArg (fun z : EReal => Ideal.exp ((x (ix2 q j) : EReal) - z)) (widen_at b1 b2 _ q j)
  have s : Host.reduceAdd E (constant ⟨0, ![]⟩ .f32 0x00000000#32) h' hu (ix1 q) = ((∑ j, Real.exp (g q j - R) : ℝ) : EReal) := by
    rw [wide_sum, ← sum_real]
    exact Finset.sum_congr rfl fun j _ => e j
  have h0 : (∑ j, Real.exp (g q j - R)) ≠ 0 :=
    (Finset.sum_pos (fun j _ => Real.exp_pos _) ⟨j, Finset.mem_univ _⟩).ne'
  rw [truncf_apply, hostDivf_apply, widen_at, e, s, Ideal.div_coe h0, ← EReal.coe_mul]
  refine congrArg _ ?_
  simp only [Real.exp_sub, ← Finset.sum_div]
  have hR0 := (Real.exp_pos R).ne'
  have hS0 : (∑ j, Real.exp (g q j)) ≠ 0 := (Finset.sum_pos (fun j _ => Real.exp_pos _) ⟨j, Finset.mem_univ _⟩).ne'
  field_simp

/-! ## The two agree -/

/-- Column `k` of device `d`'s block in the whole. -/
def wideCol (d : Fin 32) (k : Fin 1024) : Fin 32768 := ⟨d.val * 1024 + k.val, by have := d.isLt; have := k.isLt; omega⟩

/-- The device that holds column `j` of the whole, and where in its block. -/
def colDev (j : Fin 32768) : Fin 32 := ⟨j.val / 1024, by have := j.isLt; omega⟩
def colAt (j : Fin 32768) : Fin 1024 := ⟨j.val % 1024, Nat.mod_lt _ (by decide)⟩
theorem wide_parts (j : Fin 32768) : wideCol (colDev j) (colAt j) = j := by
  apply Fin.ext
  show j.val / 1024 * 1024 + j.val % 1024 = j.val
  omega

/-- A sum over all the columns is a sum over the devices of sums over their columns. -/
theorem sum_cols (f : Fin 32768 → ℝ) : ∑ d : Fin 32, ∑ k : Fin 1024, f (wideCol d k) = ∑ j, f j := by
  rw [← Fintype.sum_prod_type' (f := fun d k => f (wideCol d k))]
  refine Fintype.sum_bijective (fun p : Fin 32 × Fin 1024 => wideCol p.1 p.2) ⟨?_, ?_⟩ _ _ fun _ => rfl
  · rintro ⟨a, b⟩ ⟨c, d⟩ h
    have hv : a.val * 1024 + b.val = c.val * 1024 + d.val := congrArg Fin.val h
    have := b.isLt
    have := d.isLt
    exact Prod.ext (Fin.ext (by show a.val = c.val; omega)) (Fin.ext (by show b.val = d.val; omega))
  · exact fun j => ⟨(colDev j, colAt j), wide_parts j⟩

theorem block_entry {α : Type} (c : Dev nD) (v : SW.Idx → α) (h : Layout.Tiles S2048x1024 SW 1 32) (q : Fin 2048) (k : Fin 1024) :
    Layout.block S2048x1024 SW 1 32 c v h (ix2 q k) = v (ix2 q (wideCol c k)) := by
  refine congrArg v (funext fun a => Fin.ext ?_)
  match a with
  | ⟨0, _⟩ => rfl
  | ⟨1, _⟩ => rfl

/-- On finite arguments every device's result is its block of the reference's result. -/
theorem agree : Cert.algebraic_KernelIdeal_ReferenceIdeal_pre_finite_KernelIdeal := by
  intro m ρ m' ρ' hpre hblk
  refine ⟨softmax Cert.ReferenceIdeal.Gen.reducesTo_S2048x32768_S2048_d1 Cert.ReferenceIdeal.Gen.h_S_
      Cert.ReferenceIdeal.Gen.bcast_S2048_S2048x1_0 Cert.ReferenceIdeal.Gen.bcast_S2048x1_S2048x32768_0_1
      Cert.ReferenceIdeal.Gen.bitsLt_bf16_f32
      (m' (((0 : Dev Cert.ReferenceIdeal.nD).tc : Thread Cert.ReferenceIdeal.nD Cert.ReferenceIdeal.τ).loc Cert.ReferenceIdeal.main_arg0) : FVec Ideal SW .f32), ?_, ?_⟩
  · refine (θ_run defs _ _).mono (fun r h c => ⟨(h.1 c).1.trans ?_, (h.1 c).2⟩) (run_out (F := Ideal) m ρ)
    have real (d : Dev nD) (q : Fin 2048) (k : Fin 1024) := entry_real _ (hpre d) (ix2 q k)
    choose g hg using real
    have wide (q : Fin 2048) (j : Fin 32768) : ∃ z : ℝ, (m' (((0 : Dev Cert.ReferenceIdeal.nD).tc : Thread Cert.ReferenceIdeal.nD Cert.ReferenceIdeal.τ).loc Cert.ReferenceIdeal.main_arg0) : FVec Ideal SW .f32) (ix2 q j) = (z : EReal) := by
      refine ⟨g (colDev j) q (colAt j), ?_⟩
      refine Eq.trans ?_ (hg (colDev j) q (colAt j))
      refine Eq.trans (congrArg (fun z => (m' (((0 : Dev Cert.ReferenceIdeal.nD).tc : Thread Cert.ReferenceIdeal.nD Cert.ReferenceIdeal.τ).loc Cert.ReferenceIdeal.main_arg0) : FVec Ideal SW .f32) (ix2 q z)) (wide_parts j).symm) ?_
      exact ((congrFun (hblk (colDev j)) _).trans (block_entry _ _ _ q (colAt j))).symm
    choose G hG using wide
    have same (d : Dev nD) (q : Fin 2048) (k : Fin 1024) : G q (wideCol d k) = g d q k :=
      EReal.coe_injective ((hG q (wideCol d k)).symm.trans (((congrFun (hblk d) _).trans (block_entry _ _ _ q k)).symm.trans (hg d q k)))
    funext i
    obtain ⟨q, k, rfl⟩ : ∃ (q : Fin 2048) (k : Fin 1024), i = ix2 q k := ⟨i 0, i 1, eq_ix2 i⟩
    refine (out_at m ρ g hg c q k).trans ?_
    refine Eq.trans ?_ (block_entry c _ _ q k).symm
    refine Eq.trans ?_ (softmax_at _ _ _ _ _ _ G hG q (wideCol c k)).symm
    have total : ∑ d : Dev nD, ∑ k, Real.exp (g d q k) = ∑ j, Real.exp (G q j) := by
      refine Eq.trans ?_ (sum_cols fun j => Real.exp (G q j))
      exact Finset.sum_congr rfl fun (d : Fin 32) _ => Finset.sum_congr rfl fun k _ => congrArg Real.exp (same d q k).symm
    exact congrArg (fun z : ℝ => (z : EReal)) (congrArg₂ (fun a b : ℝ => a / b) (congrArg Real.exp (same c q k).symm) total)
  · exact (θ_run Cert.ReferenceIdeal.defs _ _).mono (fun r h => h 0) (Cert.ReferenceIdeal.Value.run (F := Ideal) m' ρ')

end Cert.KernelProof

end
-- ==== Proof.lean ====
/-
# The claims, proved

The kernel, its idealization and the reference run to an end with their arguments unchanged and their counters at
zero, and on finite arguments the kernel's result in exact arithmetic is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Value

@[expose] public section

noncomputable section

namespace Cert.Proof

open Idealize.ShloMosaic Idealize.SL.Sem

/-- All the claims together. The frames under the precondition follow from the ones that need none. -/
theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, Cert.KernelProof.frame_kernel, Cert.KernelProof.frame_ideal,
    fun m ρ _ => Cert.KernelProof.frame_ideal m ρ trivial, Cert.KernelProof.frame_reference,
    fun m ρ _ => Cert.KernelProof.frame_reference m ρ trivial, trivial, Cert.KernelProof.agree⟩

end Cert.Proof

end
